-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x32 : S_.BroadcastsInDim S512x32 (![] : Fin 0 → Fin S512x32.rank)

variable [Facts]

def fn {F : FTy → Type} [FloatOps F] (main_arg0 : FVec F S2048x512 .bf16) (main_arg1 : FVec F S512x32 .bf16) (main_arg2 : IVec S2048x1 32) (main_arg3 : FVec F S8x512x1024 .bf16) (main_arg4 : FVec F S512x1024 .bf16) : IVec S2048x512 1 × IVec S512x32 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x32 .bf16 := Host.absf main_arg1
  let main_cst_0 : FVec F S_ .bf16 := constant S_ .bf16 0x7F80#16
  let main_v4 : FVec F S512x32 .bf16 := broadcastInDim S512x32 ![] bcast_S_S512x32 main_cst_0
  let main_v5 : IVec S512x32 1 := cmpf .olt main_v3 main_v4
  (main_v2, main_v5)
-- ==== Pre_finite_scores_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x32 : S_.BroadcastsInDim S512x32 (![] : Fin 0 → Fin S512x32.rank)

variable [Facts]

def fn {F : FTy → Type} [FloatOps F] (main_arg0 : FVec F S2048x512 .bf16) (main_arg1 : FVec F S512x32 .bf16) (main_arg2 : IVec S2048x1 32) (main_arg3 : FVec F S32x512x1024 .bf16) (main_arg4 : FVec F S512x1024 .bf16) : IVec S2048x512 1 × IVec S512x32 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x32 .bf16 := Host.absf main_arg1
  let main_cst_0 : FVec F S_ .bf16 := constant S_ .bf16 0x7F80#16
  let main_v4 : FVec F S512x32 .bf16 := broadcastInDim S512x32 ![] bcast_S_S512x32 main_cst_0
  let main_v5 : IVec S512x32 1 := cmpf .olt main_v3 main_v4
  (main_v2, main_v5)
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S3x512x512 : Shape := ⟨3, ![3, 512, 512]⟩
abbrev S12 : Shape := ⟨1, ![12]⟩
abbrev S_ : Shape := ⟨0, ![]⟩
abbrev S2048x32 : Shape := ⟨2, ![2048, 32]⟩
abbrev S2048 : Shape := ⟨1, ![2048]⟩
abbrev S256x512 : Shape := ⟨2, ![256, 512]⟩
abbrev S256x1 : Shape := ⟨2, ![256, 1]⟩
abbrev S1x512x512 : Shape := ⟨3, ![1, 512, 512]⟩
abbrev S512x512 : Shape := ⟨2, ![512, 512]⟩
abbrev S1x256x512 : Shape := ⟨3, ![1, 256, 512]⟩
abbrev S1 : Shape := ⟨1, ![1]⟩

abbrev nBuf : Space → Nat
  | .hbm => 6
  | .vmem => 12
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S2048x1024, .bf16⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1, .f32⟩
  | .local _ .vmem, ⟨7, _⟩ => ⟨S2048x512, .bf16⟩
  | .local _ .vmem, ⟨8, _⟩ => ⟨S3x512x512, .bf16⟩
  | .local _ .vmem, ⟨9, _⟩ => ⟨S3x512x512, .bf16⟩
  | .local _ .vmem, ⟨10, _⟩ => ⟨S3x512x512, .bf16⟩
  | .local _ .vmem, ⟨11, _⟩ => ⟨S3x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_25 : BitVec 32) (c0_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi v2 c0_i32_25
  let c4_i32_26 : BitVec 32 := 4#32
  let v45 : BitVec 32 := Scalar.addi v44 c4_i32_26
  let c4_i32_27 : BitVec 32 := 4#32
  let v46 : BitVec 32 := Scalar.remsi v45 c4_i32_27
  let c512_i32 : BitVec 32 := 512#32
  let v49 : BitVec 32 := Scalar.muli v46 c512_i32
  let v50 : BitVec 32 := Scalar.addi v49 c0_i32_30
  let v51 : Index := Scalar.indexCast v50
  let c0_31 : Index := 0#32
  ![v51.toNat, 0]
def k0_off2 (d0 : Dev nD) (c0_i32_25 : BitVec 32) (c0_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi v2 c0_i32_25
  let c4_i32_26 : BitVec 32 := 4#32
  let v45 : BitVec 32 := Scalar.addi v44 c4_i32_26
  let c4_i32_27 : BitVec 32 := 4#32
  let v46 : BitVec 32 := Scalar.remsi v45 c4_i32_27
  let c512_i32 : BitVec 32 := 512#32
  let v49 : BitVec 32 := Scalar.muli v46 c512_i32
  let v50 : BitVec 32 := Scalar.addi v49 c0_i32_30
  let v53 : Index := Scalar.indexCast v50
  let c0_32 : Index := 0#32
  ![v53.toNat, 0]
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_79 : BitVec 32 := 1#32
  let v159 : BitVec 32 := Scalar.muli v7 c1_i32_79
  let v160 : BitVec 32 := Scalar.addi c0_i32_80 v159
  v160.toNat
def k0_off3 (d0 : Dev nD) (c0_i32_28 : BitVec 32) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c0_i32_28
  let c4_i32_29 : BitVec 32 := 4#32
  let v48 : BitVec 32 := Scalar.remsi v47 c4_i32_29
  let c512_i32_85 : BitVec 32 := 512#32
  let v169 : BitVec 32 := Scalar.muli v48 c512_i32_85
  let v170 : BitVec 32 := Scalar.addi v169 c0_i32_86
  let v171 : Index := Scalar.indexCast v170
  let c0_87 : Index := 0#32
  ![v171.toNat, 0]
def k0_off4 (d0 : Dev nD) (c0_i32_28 : BitVec 32) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c0_i32_28
  let c4_i32_29 : BitVec 32 := 4#32
  let v48 : BitVec 32 := Scalar.remsi v47 c4_i32_29
  let c512_i32_85 : BitVec 32 := 512#32
  let v169 : BitVec 32 := Scalar.muli v48 c512_i32_85
  let v170 : BitVec 32 := Scalar.addi v169 c0_i32_86
  let v173 : Index := Scalar.indexCast v170
  let c0_88 : Index := 0#32
  ![v173.toNat, 0]
def k0_dev4 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_145 : BitVec 32 := 1#32
  let v279 : BitVec 32 := Scalar.muli v5 c1_i32_145
  let v280 : BitVec 32 := Scalar.addi c0_i32_146 v279
  v280.toNat
def k0_dev5 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_210 : BitVec 32 := 1#32
  let v399 : BitVec 32 := Scalar.muli v7 c1_i32_210
  let v400 : BitVec 32 := Scalar.addi c0_i32_211 v399
  v400.toNat
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_277 : BitVec 32 := 1#32
  let v519 : BitVec 32 := Scalar.muli v5 c1_i32_277
  let v520 : BitVec 32 := Scalar.addi c0_i32_278 v519
  v520.toNat
def k0_dev7 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_362 : BitVec 32 := 1#32
  let v656 : BitVec 32 := Scalar.muli v7 c1_i32_362
  let v657 : BitVec 32 := Scalar.addi c0_i32_363 v656
  v657.toNat
def k0_dev8 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_442 : BitVec 32 := 1#32
  let v788 : BitVec 32 := Scalar.muli v5 c1_i32_442
  let v789 : BitVec 32 := Scalar.addi c0_i32_443 v788
  v789.toNat
def k0_dev9 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_522 : BitVec 32 := 1#32
  let v920 : BitVec 32 := Scalar.muli v7 c1_i32_522
  let v921 : BitVec 32 := Scalar.addi c0_i32_523 v920
  v921.toNat
def k0_dev10 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_602 : BitVec 32 := 1#32
  let v1052 : BitVec 32 := Scalar.muli v5 c1_i32_602
  let v1053 : BitVec 32 := Scalar.addi c0_i32_603 v1052
  v1053.toNat
def k0_dev11 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_687 : BitVec 32 := 1#32
  let v1189 : BitVec 32 := Scalar.muli v7 c1_i32_687
  let v1190 : BitVec 32 := Scalar.addi c0_i32_688 v1189
  v1190.toNat
def k0_dev12 (d0 : Dev nD) : Nat :=
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_767 : BitVec 32 := 1#32
  let v1321 : BitVec 32 := Scalar.muli v5 c1_i32_767
  let v1322 : BitVec 32 := Scalar.addi c0_i32_768 v1321
  v1322.toNat
def k0_dev13 (d0 : Dev nD) : Nat :=
  let c0_i32_848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_847 : BitVec 32 := 1#32
  let v1453 : BitVec 32 := Scalar.muli v7 c1_i32_847
  let v1454 : BitVec 32 := Scalar.addi c0_i32_848 v1453
  v1454.toNat
def k0_dev14 (d0 : Dev nD) : Nat :=
  let c0_i32_928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_927 : BitVec 32 := 1#32
  let v1585 : BitVec 32 := Scalar.muli v5 c1_i32_927
  let v1586 : BitVec 32 := Scalar.addi c0_i32_928 v1585
  v1586.toNat
def k0_off5 (d0 : Dev nD) (c0_i32_1009 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_933 : BitVec 32 := 1#32
  let v1595 : BitVec 32 := Scalar.addi v2 c1_i32_933
  let c4_i32_934 : BitVec 32 := 4#32
  let v1596 : BitVec 32 := Scalar.remsi v1595 c4_i32_934
  let c512_i32_1008 : BitVec 32 := 512#32
  let v1724 : BitVec 32 := Scalar.muli v1596 c512_i32_1008
  let v1725 : BitVec 32 := Scalar.addi v1724 c0_i32_1009
  let v1726 : Index := Scalar.indexCast v1725
  let c0_1010 : Index := 0#32
  ![v1726.toNat, 0]
def k0_off6 (d0 : Dev nD) (c0_i32_1014 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_933 : BitVec 32 := 1#32
  let v1595 : BitVec 32 := Scalar.addi v2 c1_i32_933
  let c4_i32_934 : BitVec 32 := 4#32
  let v1596 : BitVec 32 := Scalar.remsi v1595 c4_i32_934
  let c512_i32_1013 : BitVec 32 := 512#32
  let v1730 : BitVec 32 := Scalar.muli v1596 c512_i32_1013
  let v1731 : BitVec 32 := Scalar.addi v1730 c0_i32_1014
  let c0_i32_1019 : BitVec 32 := 0#32
  ![v1731.toNat, 0]
def k0_dev15 (d0 : Dev nD) : Nat :=
  let c0_i32_1018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1017 : BitVec 32 := 1#32
  let v1732 : BitVec 32 := Scalar.muli v7 c1_i32_1017
  let v1733 : BitVec 32 := Scalar.addi c0_i32_1018 v1732
  v1733.toNat
def k0_off7 (d0 : Dev nD) (c0_i32_1025 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1021 : BitVec 32 := 4#32
  let v1740 : BitVec 32 := Scalar.addi v2 c4_i32_1021
  let c1_i32_1022 : BitVec 32 := 1#32
  let v1741 : BitVec 32 := Scalar.subi v1740 c1_i32_1022
  let c4_i32_1023 : BitVec 32 := 4#32
  let v1742 : BitVec 32 := Scalar.remsi v1741 c4_i32_1023
  let c512_i32_1024 : BitVec 32 := 512#32
  let v1743 : BitVec 32 := Scalar.muli v1742 c512_i32_1024
  let v1744 : BitVec 32 := Scalar.addi v1743 c0_i32_1025
  let v1745 : Index := Scalar.indexCast v1744
  let c0_1026 : Index := 0#32
  ![v1745.toNat, 0]
def k0_off8 (d0 : Dev nD) (c0_i32_1025 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1021 : BitVec 32 := 4#32
  let v1740 : BitVec 32 := Scalar.addi v2 c4_i32_1021
  let c1_i32_1022 : BitVec 32 := 1#32
  let v1741 : BitVec 32 := Scalar.subi v1740 c1_i32_1022
  let c4_i32_1023 : BitVec 32 := 4#32
  let v1742 : BitVec 32 := Scalar.remsi v1741 c4_i32_1023
  let c512_i32_1024 : BitVec 32 := 512#32
  let v1743 : BitVec 32 := Scalar.muli v1742 c512_i32_1024
  let v1744 : BitVec 32 := Scalar.addi v1743 c0_i32_1025
  let v1747 : Index := Scalar.indexCast v1744
  let c0_1027 : Index := 0#32
  ![v1747.toNat, 0]
def k0_off9 (d0 : Dev nD) (c0_i32_1098 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1021 : BitVec 32 := 4#32
  let v1740 : BitVec 32 := Scalar.addi v2 c4_i32_1021
  let c1_i32_1022 : BitVec 32 := 1#32
  let v1741 : BitVec 32 := Scalar.subi v1740 c1_i32_1022
  let c4_i32_1023 : BitVec 32 := 4#32
  let v1742 : BitVec 32 := Scalar.remsi v1741 c4_i32_1023
  let c512_i32_1097 : BitVec 32 := 512#32
  let v1870 : BitVec 32 := Scalar.muli v1742 c512_i32_1097
  let v1871 : BitVec 32 := Scalar.addi v1870 c0_i32_1098
  let v1872 : Index := Scalar.indexCast v1871
  let c512_1099 : Index := 512#32
  ![v1872.toNat, 512]
def k0_off10 (d0 : Dev nD) (c0_i32_1103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1021 : BitVec 32 := 4#32
  let v1740 : BitVec 32 := Scalar.addi v2 c4_i32_1021
  let c1_i32_1022 : BitVec 32 := 1#32
  let v1741 : BitVec 32 := Scalar.subi v1740 c1_i32_1022
  let c4_i32_1023 : BitVec 32 := 4#32
  let v1742 : BitVec 32 := Scalar.remsi v1741 c4_i32_1023
  let c512_i32_1102 : BitVec 32 := 512#32
  let v1876 : BitVec 32 := Scalar.muli v1742 c512_i32_1102
  let v1877 : BitVec 32 := Scalar.addi v1876 c0_i32_1103
  let c512_i32_1108 : BitVec 32 := 512#32
  ![v1877.toNat, 512]
def k0_dev16 (d0 : Dev nD) : Nat :=
  let c0_i32_1107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1106 : BitVec 32 := 1#32
  let v1878 : BitVec 32 := Scalar.muli v5 c1_i32_1106
  let v1879 : BitVec 32 := Scalar.addi c0_i32_1107 v1878
  v1879.toNat
def k0_dev17 (d0 : Dev nD) : Nat :=
  let c0_i32_1195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1194 : BitVec 32 := 1#32
  let v2023 : BitVec 32 := Scalar.muli v7 c1_i32_1194
  let v2024 : BitVec 32 := Scalar.addi c0_i32_1195 v2023
  v2024.toNat
def k0_dev18 (d0 : Dev nD) : Nat :=
  let c0_i32_1284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1283 : BitVec 32 := 1#32
  let v2169 : BitVec 32 := Scalar.muli v5 c1_i32_1283
  let v2170 : BitVec 32 := Scalar.addi c0_i32_1284 v2169
  v2170.toNat
def k0_off11 (d0 : Dev nD) (c1_i32_1288 : BitVec 32) (c0_i32_1304 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1287 : BitVec 32 := 1#32
  let v2177 : BitVec 32 := Scalar.addi v2 c1_i32_1287
  let v2178 : BitVec 32 := Scalar.subi v2177 c1_i32_1288
  let c4_i32_1289 : BitVec 32 := 4#32
  let v2179 : BitVec 32 := Scalar.addi v2178 c4_i32_1289
  let c4_i32_1290 : BitVec 32 := 4#32
  let v2180 : BitVec 32 := Scalar.remsi v2179 c4_i32_1290
  let c512_i32_1303 : BitVec 32 := 512#32
  let v2193 : BitVec 32 := Scalar.muli v2180 c512_i32_1303
  let v2194 : BitVec 32 := Scalar.addi v2193 c0_i32_1304
  let c0_i32_1309 : BitVec 32 := 0#32
  ![v2194.toNat, 0]
def k0_dev19 (d0 : Dev nD) : Nat :=
  let c0_i32_1308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1307 : BitVec 32 := 1#32
  let v2195 : BitVec 32 := Scalar.muli v7 c1_i32_1307
  let v2196 : BitVec 32 := Scalar.addi c0_i32_1308 v2195
  v2196.toNat
def k0_off12 (d0 : Dev nD) (c1_i32_1292 : BitVec 32) (c0_i32_1320 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1291 : BitVec 32 := 1#32
  let v2181 : BitVec 32 := Scalar.subi v2 c1_i32_1291
  let v2182 : BitVec 32 := Scalar.addi v2181 c1_i32_1292
  let c4_i32_1293 : BitVec 32 := 4#32
  let v2183 : BitVec 32 := Scalar.addi v2182 c4_i32_1293
  let c4_i32_1294 : BitVec 32 := 4#32
  let v2184 : BitVec 32 := Scalar.remsi v2183 c4_i32_1294
  let c512_i32_1319 : BitVec 32 := 512#32
  let v2211 : BitVec 32 := Scalar.muli v2184 c512_i32_1319
  let v2212 : BitVec 32 := Scalar.addi v2211 c0_i32_1320
  let c512_i32_1325 : BitVec 32 := 512#32
  ![v2212.toNat, 512]
def k0_dev20 (d0 : Dev nD) : Nat :=
  let c0_i32_1324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1323 : BitVec 32 := 1#32
  let v2213 : BitVec 32 := Scalar.muli v5 c1_i32_1323
  let v2214 : BitVec 32 := Scalar.addi c0_i32_1324 v2213
  v2214.toNat
def k0_dev21 (d0 : Dev nD) : Nat :=
  let c0_i32_1339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1338 : BitVec 32 := 1#32
  let v2231 : BitVec 32 := Scalar.muli v7 c1_i32_1338
  let v2232 : BitVec 32 := Scalar.addi c0_i32_1339 v2231
  v2232.toNat
def k0_dev22 (d0 : Dev nD) : Nat :=
  let c0_i32_1355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1354 : BitVec 32 := 1#32
  let v2249 : BitVec 32 := Scalar.muli v5 c1_i32_1354
  let v2250 : BitVec 32 := Scalar.addi c0_i32_1355 v2249
  v2250.toNat
def k0_dev23 (d0 : Dev nD) : Nat :=
  let c0_i32_1378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1377 : BitVec 32 := 1#32
  let v2275 : BitVec 32 := Scalar.muli v7 c1_i32_1377
  let v2276 : BitVec 32 := Scalar.addi c0_i32_1378 v2275
  v2276.toNat
def k0_dev24 (d0 : Dev nD) : Nat :=
  let c0_i32_1394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1393 : BitVec 32 := 1#32
  let v2293 : BitVec 32 := Scalar.muli v5 c1_i32_1393
  let v2294 : BitVec 32 := Scalar.addi c0_i32_1394 v2293
  v2294.toNat
def k0_dev25 (d0 : Dev nD) : Nat :=
  let c0_i32_1409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1408 : BitVec 32 := 1#32
  let v2311 : BitVec 32 := Scalar.muli v7 c1_i32_1408
  let v2312 : BitVec 32 := Scalar.addi c0_i32_1409 v2311
  v2312.toNat
def k0_dev26 (d0 : Dev nD) : Nat :=
  let c0_i32_1425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1424 : BitVec 32 := 1#32
  let v2329 : BitVec 32 := Scalar.muli v5 c1_i32_1424
  let v2330 : BitVec 32 := Scalar.addi c0_i32_1425 v2329
  v2330.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S2048x2 : Shape := ⟨2, ![2048, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2048x512x1024 : Shape := ⟨3, ![2048, 512, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S512x1024, .bf16⟩
  | .hbm, ⟨5, _⟩ => ⟨S2048x512, .f32⟩
  | .hbm, ⟨6, _⟩ => ⟨S512x32, .f32⟩
  | .hbm, ⟨7, _⟩ => ⟨S32x512x1024, .f32⟩
  | .hbm, ⟨8, _⟩ => ⟨S512x1024, .f32⟩
  | .hbm, ⟨9, _⟩ => ⟨S2048x32, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x32, .f32⟩
  | .hbm, ⟨20, _⟩ => ⟨S2048x32, .f32⟩
  | .hbm, ⟨21, _⟩ => ⟨S2048x1024, .f32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x1, .i32⟩
  | .hbm, ⟨26, _⟩ => ⟨S2048x2, .i32⟩
  | .hbm, ⟨27, _⟩ => ⟨S2, .i32⟩
  | .hbm, ⟨28, _⟩ => ⟨S_, .i32⟩
  | .hbm, ⟨29, _⟩ => ⟨S2048x2, .i32⟩
  | .hbm, ⟨30, _⟩ => ⟨S2048x2, .i1⟩
  | .hbm, ⟨31, _⟩ => ⟨S1x2, .i32⟩
  | .hbm, ⟨32, _⟩ => ⟨S2048x2, .i32⟩
  | .hbm, ⟨33, _⟩ => ⟨S2048x2, .i1⟩
  | .hbm, ⟨34, _⟩ => ⟨S2048x2, .i1⟩
  | .hbm, ⟨35, _⟩ => ⟨S_, .i1⟩
  | .hbm, ⟨36, _⟩ => ⟨S2048, .i1⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048x1, .i32⟩
  | .hbm, ⟨42, _⟩ => ⟨S1, .i32⟩
  | .hbm, ⟨43, _⟩ => ⟨S_, .i32⟩
  | .hbm, ⟨44, _⟩ => ⟨S2048x1, .i32⟩
  | .hbm, ⟨45, _⟩ => ⟨S2048x1, .i1⟩
  | .hbm, ⟨46, _⟩ => ⟨S1x1, .i32⟩
  | .hbm, ⟨47, _⟩ => ⟨S2048x1, .i32⟩
  | .hbm, ⟨48, _⟩ => ⟨S2048x1, .i1⟩
  | .hbm, ⟨49, _⟩ => ⟨S2048x1, .i1⟩
  | .hbm, ⟨50, _⟩ => ⟨S_, .i1⟩
  | .hbm, ⟨51, _⟩ => ⟨S2048, .i1⟩
  | .hbm, ⟨52, _⟩ => ⟨S2048x512x1024, .f32⟩
  | .hbm, ⟨53, _⟩ => ⟨S2048x512x1024, .i1⟩
  | .hbm, ⟨54, _⟩ => ⟨S_, .f32⟩
  | .hbm, ⟨55, _⟩ => ⟨S2048x512x1024, .f32⟩
  | .hbm, ⟨56, _⟩ => ⟨S2048x512x1024, .f32⟩
  | .hbm, ⟨57, _⟩ => ⟨S2048x1024, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Program.lean ====
/-
# The kernel body as a sequence of phases

The printed body is one straight line of memory operations. Here it is written again as the phases the kernel is
made of — a half-block's partial product, a reduce-scatter step, an all-gather step, the final waits — each a
program over its continuation, and `cc0_body_eq` states that the printed body is their sequence.
-/
module

public import proofs.«01_k».proof.Proof.Gen.KernelIdeal.Skeleton

@[expose] public section

noncomputable section

namespace Cert.KernelIdeal.Run

open Cert.KernelIdeal Cert.KernelIdeal.Gen
open Idealize.ShloMosaic Idealize.SL.Sem

variable {F : FTy → Type} [FloatOps F]

/-- A program of the kernel's core that returns nothing. -/
abbrev KProg (F : FTy → Type) [FloatOps F] : Type 1 := Prog (TpuEff nD τ sig (Elt F) Λ₀ .tc) PUnit.{1}

/-! ## The pure values -/

/-- One expert's term of a half-block's partial product: the rows whose token goes to expert `e`, scaled by their
    router weight, times that expert's matrix. -/
def term (e : BitVec 32) (xv : Vec F S256x512 .bf16) (rv : Vec F S256x1 .i32) (pv : Vec F S256x1 .f32)
    (w : Vec F S1x512x512 .bf16) : FVec F S256x512 .f32 :=
  matmul dot_S256x512_S512x512_S256x512_1_0_0_1_n_n none
    (mulf xv (broadcastTo S256x512 (truncf .bf16
      (select (cmpi .eq (shapeCast S256x1 rv Gen.shapeCasts_S256x1_S256x1) (broadcast S256x1 e)) pv
        (broadcast S256x1 (Scalar.ofBits (F := F) .f32 0x00000000#32))) Gen.bitsLt_bf16_f32)
      Gen.broadcasts_S256x1_S256x512))
    (shapeCast S512x512 w Gen.shapeCasts_S1x512x512_S512x512) (constant S256x512 .f32 0x00000000#32)

/-- A half-block's partial product: the terms of the device's eight experts, added in order. -/
def halfVal (b : BitVec 32) (xv : Vec F S256x512 .bf16) (rv : Vec F S256x1 .i32) (pv : Vec F S256x1 .f32)
    (w : Fin 8 → Vec F S1x512x512 .bf16) : FVec F S256x512 .f32 :=
  addf (addf (addf (addf (addf (addf (addf (addf
    (broadcast S256x512 (Scalar.ofBits (F := F) .f32 0x00000000#32))
    (term (Scalar.addi b 0#32) xv rv pv (w 0))) (term (Scalar.addi b 1#32) xv rv pv (w 1)))
    (term (Scalar.addi b 2#32) xv rv pv (w 2))) (term (Scalar.addi b 3#32) xv rv pv (w 3)))
    (term (Scalar.addi b 4#32) xv rv pv (w 4))) (term (Scalar.addi b 5#32) xv rv pv (w 5)))
    (term (Scalar.addi b 6#32) xv rv pv (w 6))) (term (Scalar.addi b 7#32) xv rv pv (w 7))

/-- What the first reduce-scatter step sends: the partial product, rounded. -/
def sendFirst (pc : FVec F S256x512 .f32) : FVec F S1x256x512 .bf16 :=
  shapeCast S1x256x512 (truncf .bf16 pc Gen.bitsLt_bf16_f32) Gen.shapeCasts_S256x512_S1x256x512

/-- What a later step sends: the block received, plus the partial product, rounded. -/
def sendNext (cv : Vec F S1x256x512 .bf16) (pc : FVec F S256x512 .f32) : FVec F S1x256x512 .bf16 :=
  shapeCast S1x256x512 (truncf .bf16 (addf (extf .f32 (shapeCast S256x512 cv Gen.shapeCasts_S1x256x512_S256x512)
    Gen.bitsLt_bf16_f32) pc) Gen.bitsLt_bf16_f32) Gen.shapeCasts_S256x512_S1x256x512

/-- A half-block's shared product. -/
def sharedVal (xv : Vec F S256x512 .bf16) (w : Vec F S512x512 .bf16) : FVec F S256x512 .f32 :=
  matmul dot_S256x512_S512x512_S256x512_1_0_0_1_n_n none xv
    (shapeCast S512x512 w Gen.shapeCasts_S512x512_S512x512) (constant S256x512 .f32 0x00000000#32)

/-- A half-block of the result: the block received, plus the own partial product, plus the shared product,
    rounded. -/
def finalVal (cv : Vec F S1x256x512 .bf16) (pc sh : FVec F S256x512 .f32) : FVec F S256x512 .bf16 :=
  truncf .bf16 (addf (addf (extf .f32 (shapeCast S256x512 cv Gen.shapeCasts_S1x256x512_S256x512)
    Gen.bitsLt_bf16_f32) pc) sh) Gen.bitsLt_bf16_f32

/-! ## The phases -/

/-- The columns of expert `le`'s matrix a ring works on. -/
abbrev wOff (le : Fin 8) (h : Fin 2) : Fin 3 → Nat := ![le.val, 0, 512 * h.val]

theorem wOff_inb (le : Fin 8) (h : Fin 2) : ∀ a, wOff le h a + S1x512x512.size a ≤ S8x512x1024.size a := by
  revert le h; decide +kernel

/-- Row block `sub` of slot `s` of a reduce-scatter buffer. -/
abbrev slotOff (s : Fin 3) (sub : Fin 2) : Fin 3 → Nat := ![s.val, 256 * sub.val, 0]

theorem slotOff_inb (s : Fin 3) (sub : Fin 2) : ∀ a, slotOff s sub a + S1x256x512.size a ≤ S3x512x512.size a := by
  revert s sub; decide +kernel

/-- The rectangle of row block `sub` of slot `s`. -/
abbrev slotRect (s : Fin 3) (sub : Fin 2) : Rect S3x512x512 :=
  Rect.unit (s := S3x512x512) (slotOff s sub) S1x256x512.size (slotOff_inb s sub)

theorem slotRect_words (s : Fin 3) (sub : Fin 2) : (slotRect s sub).WholeWords (EltTy.packing .bf16) := by
  revert s sub; decide +kernel

theorem slotRect_packed (s : Fin 3) (sub : Fin 2) : (slotRect s sub).PackedRows (EltTy.packing .bf16) := by
  revert s sub; decide +kernel

/-- Row block `sub` of slot `s` of a reduce-scatter buffer, as a matrix. -/
abbrev slotRef (b : Memref sig .tc .vmem S3x512x512 .bf16) (s : Fin 3) (sub : Fin 2) :
    Memref sig .tc .vmem S256x512 .bf16 :=
  (b.slice (slotRect s sub) (fun _ => rfl)).squeeze S256x512 Gen.squeezes_S1x256x512_S256x512

theorem slotRef_words {b : Memref sig .tc .vmem S3x512x512 .bf16} (hb : b.IsWhole) (s : Fin 3) (sub : Fin 2) :
    (slotRef b s sub).view.WordExact :=
  (hb.wordExact_slice rfl _ (slotRect_words s sub)).reshape _ _

theorem semOff_inb (k : Fin 12) : ∀ a, (![k.val] : Fin 1 → Nat) a + S1.size a ≤ S12.size a := by
  revert k; decide +kernel

/-- Semaphore `k` of an array of twelve. -/
abbrev semAt (A : DmaSems sig S12) (k : Fin 12) : DmaSem sig :=
  ((A.slice (Rect.unit (s := S12) ![k.val] S1.size (semOff_inb k))).squeeze S_ Gen.squeezes_S1_S_).sem

/-- The block of the output a rectangle names. -/
abbrev outRef (o : Memref sig .tc .vmem S2048x1024 .bf16) (off : Fin 2 → Nat)
    (inb : ∀ a, off a + S256x512.size a ≤ S2048x1024.size a) : Memref sig .tc .vmem S256x512 .bf16 :=
  o.slice (Rect.unit (s := S2048x1024) off S256x512.size inb) (fun _ => rfl)

/-- Load one expert's matrix, this ring's columns. -/
def loadW (ew : Memref sig .tc .vmem S8x512x1024 .bf16) (le : Fin 8) (h : Fin 2)
    (k : Vec F S1x512x512 .bf16 → KProg F) : KProg F :=
  .op (.load ew (Rect.unit (s := S8x512x1024) (wOff le h) S1x512x512.size (wOff_inb le h)).toLoadRect
    (View.loadsAt_vmem Gen.h_S1x512x512)) k

/-- A half-block's partial product: read the block's rows, their experts and weights, and the eight matrices. -/
def half (x : Memref sig .tc .vmem S2048x512 .bf16) (ri : Memref sig .tc .vmem S2048x1 .i32)
    (pt : Memref sig .tc .vmem S2048x1 .f32) (ew : Memref sig .tc .vmem S8x512x1024 .bf16)
    (o1 : Fin 2 → Nat) (h1 : ∀ a, o1 a + S256x512.size a ≤ S2048x512.size a)
    (o2 : Fin 2 → Nat) (h2 : ∀ a, o2 a + S256x1.size a ≤ S2048x1.size a)
    (h : Fin 2) (b : BitVec 32) (k : FVec F S256x512 .f32 → KProg F) : KProg F :=
  .op (.load x (Rect.unit (s := S2048x512) o1 S256x512.size h1).toLoadRect (View.loadsAt_vmem Gen.h_S256x512)) fun xv =>
  .op (.load ri (Rect.unit (s := S2048x1) o2 S256x1.size h2).toLoadRect (View.loadsAt_vmem Gen.h_S256x1)) fun rv =>
  .op (.load pt (Rect.unit (s := S2048x1) o2 S256x1.size h2).toLoadRect (View.loadsAt_vmem Gen.h_S256x1)) fun pv =>
  loadW ew 0 h fun w0 => loadW ew 1 h fun w1 => loadW ew 2 h fun w2 => loadW ew 3 h fun w3 =>
  loadW ew 4 h fun w4 => loadW ew 5 h fun w5 => loadW ew 6 h fun w6 => loadW ew 7 h fun w7 =>
  k (halfVal b xv rv pv ![w0, w1, w2, w3, w4, w5, w6, w7])

/-- Start a copy to device `n`. -/
def send (src dst : Memref sig .tc .vmem S256x512 .bf16) (sS sR : DmaSem sig) (n : Dev nD)
    (hs : src.view.WordExact) (hd : dst.view.WordExact) (k : KProg F) : KProg F :=
  .op (.enqueueDma src (.remote (Dev.tc n) dst (.dma sS)) (.dma sR) hs hd ⟨⟨rfl, Or.inl rfl⟩, trivial⟩) fun _ => k

/-- Wait for a block's worth on a semaphore. -/
def wait (s : DmaSem sig) (src dst : Memref sig .tc .vmem S256x512 .bf16)
    (hs : src.view.WordExact) (hd : dst.view.WordExact) (k : KProg F) : KProg F :=
  .op (.waitDma2 s src dst hs hd) fun _ => k

/-- Store a block into a slot of the outgoing buffer (the printed store reads the slot first). -/
def putSlot (sb : Memref sig .tc .vmem S3x512x512 .bf16) (hb : sb.IsWhole) (s : Fin 3) (sub : Fin 2)
    (v : FVec F S1x256x512 .bf16) (k : KProg F) : KProg F :=
  .op (.load sb (slotRect s sub).toLoadRect (View.loadsAt_vmem Gen.h_S1x256x512)) fun _ =>
  .op (.store sb (slotRect s sub) v Finset.univ (View.stores_vmem Gen.h_S1x256x512
    (hb.storeExact_slice rfl _ (slotRect_packed s sub)) (fun _ => rfl)) (.inl rfl)) fun _ => k

/-- Read a slot of the incoming buffer. -/
def getSlot (cm : Memref sig .tc .vmem S3x512x512 .bf16) (s : Fin 3) (sub : Fin 2)
    (k : Vec F S1x256x512 .bf16 → KProg F) : KProg F :=
  .op (.load cm (slotRect s sub).toLoadRect (View.loadsAt_vmem Gen.h_S1x256x512)) k

/-- Store a block into the output (the printed store reads the block first). -/
def putOut (o : Memref sig .tc .vmem S2048x1024 .bf16) (ho : o.IsWhole) (off : Fin 2 → Nat)
    (inb : ∀ a, off a + S256x512.size a ≤ S2048x1024.size a)
    (hp : (Rect.unit (s := S2048x1024) off S256x512.size inb).PackedRows (EltTy.packing .bf16))
    (v : FVec F S256x512 .bf16) (k : KProg F) : KProg F :=
  .op (.load o (Rect.unit (s := S2048x1024) off S256x512.size inb).toLoadRect (View.loadsAt_vmem Gen.h_S256x512)) fun _ =>
  .op (.store o (Rect.unit (s := S2048x1024) off S256x512.size inb) v Finset.univ (View.stores_vmem Gen.h_S256x512
    (ho.storeExact_slice rfl _ hp) (fun _ => rfl)) (.inl rfl)) fun _ => k

/-- The columns of the shared matrix a ring works on. -/
abbrev swOff (h : Fin 2) : Fin 2 → Nat := ![0, 512 * h.val]

theorem swOff_inb (h : Fin 2) : ∀ a, swOff h a + S512x512.size a ≤ S512x1024.size a := by
  revert h; decide +kernel

/-- The semaphore of reduce-scatter step `s`, row block `sub`. -/
abbrev stepIx (s : Fin 3) (sub : Fin 2) : Fin 12 := ⟨2 * s.val + sub.val, by omega⟩

/-- The semaphore of all-gather step `a`, row block `sub`. -/
abbrev gatherIx (a : Fin 3) (sub : Fin 2) : Fin 12 := ⟨6 + 2 * a.val + sub.val, by omega⟩

/-- The first reduce-scatter step of a ring on row block `sub`: the partial product, stored and sent on. -/
def rsFirst (x : Memref sig .tc .vmem S2048x512 .bf16) (ri : Memref sig .tc .vmem S2048x1 .i32)
    (pt : Memref sig .tc .vmem S2048x1 .f32) (ew : Memref sig .tc .vmem S8x512x1024 .bf16)
    (o1 : Fin 2 → Nat) (h1 : ∀ a, o1 a + S256x512.size a ≤ S2048x512.size a)
    (o2 : Fin 2 → Nat) (h2 : ∀ a, o2 a + S256x1.size a ≤ S2048x1.size a) (h : Fin 2) (b : BitVec 32)
    (sb cm : Memref sig .tc .vmem S3x512x512 .bf16) (hsb : sb.IsWhole) (hcm : cm.IsWhole) (sub : Fin 2)
    (sS sR : DmaSem sig) (n : Dev nD) (k : KProg F) : KProg F :=
  half x ri pt ew o1 h1 o2 h2 h b fun pc =>
  putSlot sb hsb 0 sub (sendFirst pc) <|
  send (slotRef sb 0 sub) (slotRef cm 0 sub) sS sR n (slotRef_words hsb 0 sub) (slotRef_words hcm 0 sub) k

/-- A later reduce-scatter step: the partial product, the previous step's block awaited (on `sR'`) and added, the
    sum stored and sent on. -/
def rsNext (x : Memref sig .tc .vmem S2048x512 .bf16) (ri : Memref sig .tc .vmem S2048x1 .i32)
    (pt : Memref sig .tc .vmem S2048x1 .f32) (ew : Memref sig .tc .vmem S8x512x1024 .bf16)
    (o1 : Fin 2 → Nat) (h1 : ∀ a, o1 a + S256x512.size a ≤ S2048x512.size a)
    (o2 : Fin 2 → Nat) (h2 : ∀ a, o2 a + S256x1.size a ≤ S2048x1.size a) (h : Fin 2) (b : BitVec 32)
    (sb cm : Memref sig .tc .vmem S3x512x512 .bf16) (hsb : sb.IsWhole) (hcm : cm.IsWhole) (s' s : Fin 3) (sub : Fin 2)
    (sR' sS sR : DmaSem sig) (n : Dev nD) (k : KProg F) : KProg F :=
  half x ri pt ew o1 h1 o2 h2 h b fun pc =>
  wait sR' (slotRef sb s' sub) (slotRef cm s' sub) (slotRef_words hsb s' sub) (slotRef_words hcm s' sub) <|
  getSlot cm s' sub fun cv =>
  putSlot sb hsb s sub (sendNext cv pc) <|
  send (slotRef sb s sub) (slotRef cm s sub) sS sR n (slotRef_words hsb s sub) (slotRef_words hcm s sub) k

/-- The reduce-scatter's end and the all-gather's first step: the own block finished, stored into the output and
    sent on. -/
def agFirst (x : Memref sig .tc .vmem S2048x512 .bf16) (ri : Memref sig .tc .vmem S2048x1 .i32)
    (pt : Memref sig .tc .vmem S2048x1 .f32) (ew : Memref sig .tc .vmem S8x512x1024 .bf16)
    (sw : Memref sig .tc .vmem S512x1024 .bf16) (o : Memref sig .tc .vmem S2048x1024 .bf16) (ho : o.IsWhole)
    (o1 : Fin 2 → Nat) (h1 : ∀ a, o1 a + S256x512.size a ≤ S2048x512.size a)
    (o2 : Fin 2 → Nat) (h2 : ∀ a, o2 a + S256x1.size a ≤ S2048x1.size a) (h : Fin 2) (b : BitVec 32)
    (sb cm : Memref sig .tc .vmem S3x512x512 .bf16) (hsb : sb.IsWhole) (hcm : cm.IsWhole) (sub : Fin 2)
    (o3 : Fin 2 → Nat) (h3 : ∀ a, o3 a + S256x512.size a ≤ S2048x1024.size a)
    (hp : (Rect.unit (s := S2048x1024) o3 S256x512.size h3).PackedRows (EltTy.packing .bf16))
    (o4 : Fin 2 → Nat) (h4 : ∀ a, o4 a + S256x512.size a ≤ S2048x1024.size a)
    (hw : (outRef o o4 h4).view.WordExact)
    (sR' sS sR : DmaSem sig) (n : Dev nD) (k : KProg F) : KProg F :=
  half x ri pt ew o1 h1 o2 h2 h b fun pc =>
  .op (.load x (Rect.unit (s := S2048x512) o1 S256x512.size h1).toLoadRect (View.loadsAt_vmem Gen.h_S256x512)) fun xv =>
  .op (.load sw (Rect.unit (s := S512x1024) (swOff h) S512x512.size (swOff_inb h)).toLoadRect
    (View.loadsAt_vmem Gen.h_S512x512)) fun w =>
  wait sR' (slotRef sb 2 sub) (slotRef cm 2 sub) (slotRef_words hsb 2 sub) (slotRef_words hcm 2 sub) <|
  getSlot cm 2 sub fun cv =>
  putOut o ho o3 h3 hp (finalVal cv pc (sharedVal xv w)) <|
  send (outRef o o4 h4) (outRef o o4 h4) sS sR n hw hw k

/-- A later all-gather step: the block received (awaited on `sR'`) is sent on. -/
def agNext (o : Memref sig .tc .vmem S2048x1024 .bf16)
    (o3 : Fin 2 → Nat) (h3 : ∀ a, o3 a + S256x512.size a ≤ S2048x1024.size a) (hw3 : (outRef o o3 h3).view.WordExact)
    (o4 : Fin 2 → Nat) (h4 : ∀ a, o4 a + S256x512.size a ≤ S2048x1024.size a) (hw4 : (outRef o o4 h4).view.WordExact)
    (sR' sS sR : DmaSem sig) (n : Dev nD) (k : KProg F) : KProg F :=
  wait sR' (outRef o o3 h3) (outRef o o3 h3) hw3 hw3 <|
  send (outRef o o4 h4) (outRef o o4 h4) sS sR n hw4 hw4 k

/-- The start: the barrier with both neighbours, the tokens rounded into scratch, the router's weights of each
    token's expert into scratch. -/
def start (a0 : Memref sig .tc .vmem S2048x512 .bf16) (a1 : Memref sig .tc .vmem S512x32 .bf16)
    (a2 : Memref sig .tc .vmem S2048x1 .i32) (a6 : Memref sig .tc .vmem S2048x1 .f32) (h6 : a6.IsWhole)
    (a7 : Memref sig .tc .vmem S2048x512 .bf16) (h7 : a7.IsWhole) (d0 : Dev nD) (k : KProg F) : KProg F :=
  (semSignalWord (⟨k0_dev1 d0, Gen.k0_dev1_lt d0⟩ : Dev nD) (SemArray.scalar (sig.barrier 0 rfl) : Sems sig S_).sem 1#32).bind fun _ =>
  (semSignalWord (⟨k0_dev2 d0, Gen.k0_dev2_lt d0⟩ : Dev nD) (SemArray.scalar (sig.barrier 0 rfl) : Sems sig S_).sem 1#32).bind fun _ =>
  (semWaitWord (SemArray.scalar (sig.barrier 0 rfl) : Sems sig S_).sem 2#32).bind fun _ =>
  .op (.load a0 (Rect.unit (s := S2048x512) ![0, 0] S2048x512.size Gen.inb_S2048x512_S2048x512_0_0).toLoadRect
    (View.loadsAt_vmem Gen.h_S2048x512)) fun xv =>
  .op (.load a7 (Rect.unit (s := S2048x512) ![0, 0] S2048x512.size Gen.inb_S2048x512_S2048x512_0_0).toLoadRect
    (View.loadsAt_vmem Gen.h_S2048x512)) fun _ =>
  .op (.store a7 (Rect.unit (s := S2048x512) ![0, 0] S2048x512.size Gen.inb_S2048x512_S2048x512_0_0) (k0_pay1 xv)
    Finset.univ (View.stores_vmem Gen.h_S2048x512
      (h7.storeExact_slice rfl _ Gen.packedbf16_S2048x512_S2048x512_0_0) (fun _ => rfl)) (.inl rfl)) fun _ =>
  .op (.load a7 (Rect.unit (s := S2048x512) ![0, 0] S2048x512.size Gen.inb_S2048x512_S2048x512_0_0).toLoadRect
    (View.loadsAt_vmem Gen.h_S2048x512)) fun xb =>
  .op (.load a1 (Rect.unit (s := S512x32) ![0, 0] S512x32.size Gen.inb_S512x32_S512x32_0_0).toLoadRect
    (View.loadsAt_vmem Gen.h_S512x32)) fun rw =>
  .op (.load a2 (Rect.unit (s := S2048x1) ![0, 0] S2048x1.size Gen.inb_S2048x1_S2048x1_0_0).toLoadRect
    (View.loadsAt_vmem Gen.h_S2048x1)) fun ri =>
  .op (.load a6 (Rect.unit (s := S2048x1) ![0, 0] S2048x1.size Gen.inb_S2048x1_S2048x1_0_0).toLoadRect
    (View.loadsAt_vmem Gen.h_S2048x1)) fun _ =>
  .op (.store a6 (Rect.unit (s := S2048x1) ![0, 0] S2048x1.size Gen.inb_S2048x1_S2048x1_0_0)
    (k0_pay4 (k0_pay2 xb rw) (k0_pay3 xb rw) ri)
    Finset.univ (View.stores_vmem_bits_univ Gen.h_S2048x1 rfl) (.inl rfl)) fun _ => k

/-! ## The whole body -/

section Body

variable (a0 : Memref sig .tc .vmem S2048x512 .bf16) (a1 : Memref sig .tc .vmem S512x32 .bf16)
  (a2 : Memref sig .tc .vmem S2048x1 .i32) (a3 : Memref sig .tc .vmem S8x512x1024 .bf16)
  (a4 : Memref sig .tc .vmem S512x1024 .bf16) (a5 : Memref sig .tc .vmem S2048x1024 .bf16) (h5 : a5.IsWhole)
  (a6 : Memref sig .tc .vmem S2048x1 .f32) (h6 : a6.IsWhole) (a7 : Memref sig .tc .vmem S2048x512 .bf16) (h7 : a7.IsWhole)
  (a8 : Memref sig .tc .vmem S3x512x512 .bf16) (h8 : a8.IsWhole) (a9 : Memref sig .tc .vmem S3x512x512 .bf16) (h9 : a9.IsWhole)
  (a10 : Memref sig .tc .vmem S3x512x512 .bf16) (h10 : a10.IsWhole) (a11 : Memref sig .tc .vmem S3x512x512 .bf16) (h11 : a11.IsWhole)
  (a12 a13 a14 a15 : DmaSems sig S12) (d : Dev nD)

/-- The word the device's first expert's number is: eight times its place. -/
abbrev baseWord : BitVec 32 := Scalar.muli (Scalar.remsi (Scalar.divsi (Dev.word d) 1#32) 4#32) 8#32

/-- Reduce-scatter step 0, rightward ring. -/
def firstL (sub : Fin 2) (n : Dev nD) (k : KProg F) : KProg F :=
  rsFirst a7 a2 a6 a3 (k0_off1 d (BitVec.ofNat 32 (0 : Fin 3).val) (BitVec.ofNat 32 (256 * sub.val))) (Gen.k0_off1_inb d 0 sub)
    (k0_off2 d (BitVec.ofNat 32 (0 : Fin 3).val) (BitVec.ofNat 32 (256 * sub.val))) (Gen.k0_off2_inb d 0 sub)
    0 (baseWord d) a8 a10 h8 h10 sub (semAt a12 (stepIx 0 sub)) (semAt a13 (stepIx 0 sub)) n k

/-- Reduce-scatter step 0, leftward ring. -/
def firstR (sub : Fin 2) (n : Dev nD) (k : KProg F) : KProg F :=
  rsFirst a7 a2 a6 a3 (k0_off3 d (BitVec.ofNat 32 (0 : Fin 3).val) (BitVec.ofNat 32 (256 * sub.val))) (Gen.k0_off3_inb d 0 sub)
    (k0_off4 d (BitVec.ofNat 32 (0 : Fin 3).val) (BitVec.ofNat 32 (256 * sub.val))) (Gen.k0_off4_inb d 0 sub)
    1 (baseWord d) a9 a11 h9 h11 sub (semAt a14 (stepIx 0 sub)) (semAt a15 (stepIx 0 sub)) n k

/-- Reduce-scatter step `s' + 1`, rightward ring. -/
def nextL (s' s : Fin 3) (sub : Fin 2) (n : Dev nD) (k : KProg F) : KProg F :=
  rsNext a7 a2 a6 a3 (k0_off1 d (BitVec.ofNat 32 s.val) (BitVec.ofNat 32 (256 * sub.val))) (Gen.k0_off1_inb d s sub)
    (k0_off2 d (BitVec.ofNat 32 s.val) (BitVec.ofNat 32 (256 * sub.val))) (Gen.k0_off2_inb d s sub)
    0 (baseWord d) a8 a10 h8 h10 s' s sub (semAt a13 (stepIx s' sub)) (semAt a12 (stepIx s sub)) (semAt a13 (stepIx s sub)) n k

/-- Reduce-scatter step `s' + 1`, leftward ring. -/
def nextR (s' s : Fin 3) (sub : Fin 2) (n : Dev nD) (k : KProg F) : KProg F :=
  rsNext a7 a2 a6 a3 (k0_off3 d (BitVec.ofNat 32 s.val) (BitVec.ofNat 32 (256 * sub.val))) (Gen.k0_off3_inb d s sub)
    (k0_off4 d (BitVec.ofNat 32 s.val) (BitVec.ofNat 32 (256 * sub.val))) (Gen.k0_off4_inb d s sub)
    1 (baseWord d) a9 a11 h9 h11 s' s sub (semAt a15 (stepIx s' sub)) (semAt a14 (stepIx s sub)) (semAt a15 (stepIx s sub)) n k

/-- The own block of the rightward ring. -/
def ownL (sub : Fin 2) (n : Dev nD) (k : KProg F) : KProg F :=
  agFirst a7 a2 a6 a3 a4 a5 h5 (k0_off3 d (BitVec.ofNat 32 (1 : Fin 3).val) (BitVec.ofNat 32 (256 * sub.val))) (Gen.k0_off3_inb d 1 sub)
    (k0_off4 d (BitVec.ofNat 32 (1 : Fin 3).val) (BitVec.ofNat 32 (256 * sub.val))) (Gen.k0_off4_inb d 1 sub)
    0 (baseWord d) a8 a10 h8 h10 sub
    (k0_off5 d (BitVec.ofNat 32 (256 * sub.val))) (Gen.k0_off5_inb d sub) (Gen.k0_off5_packedbf16 d sub)
    (k0_off6 d (BitVec.ofNat 32 (256 * sub.val))) (Gen.k0_off6_inb d sub) (h5.wordExact_slice rfl _ (Gen.k0_off6_wordsbf16 d sub))
    (semAt a13 (stepIx 2 sub)) (semAt a12 (gatherIx 0 sub)) (semAt a13 (gatherIx 0 sub)) n k

/-- The own block of the leftward ring. -/
def ownR (sub : Fin 2) (n : Dev nD) (k : KProg F) : KProg F :=
  agFirst a7 a2 a6 a3 a4 a5 h5 (k0_off7 d (BitVec.ofNat 32 (256 * sub.val))) (Gen.k0_off7_inb d sub)
    (k0_off8 d (BitVec.ofNat 32 (256 * sub.val))) (Gen.k0_off8_inb d sub)
    1 (baseWord d) a9 a11 h9 h11 sub
    (k0_off9 d (BitVec.ofNat 32 (256 * sub.val))) (Gen.k0_off9_inb d sub) (Gen.k0_off9_packedbf16 d sub)
    (k0_off10 d (BitVec.ofNat 32 (256 * sub.val))) (Gen.k0_off10_inb d sub) (h5.wordExact_slice rfl _ (Gen.k0_off10_wordsbf16 d sub))
    (semAt a15 (stepIx 2 sub)) (semAt a14 (gatherIx 0 sub)) (semAt a15 (gatherIx 0 sub)) n k

/-- The all-gather's second step, rightward ring: the neighbour's own block goes on. -/
def gatherL1 (sub : Fin 2) (n : Dev nD) (k : KProg F) : KProg F :=
  agNext a5 (k0_off6 d (BitVec.ofNat 32 (256 * sub.val))) (Gen.k0_off6_inb d sub) (h5.wordExact_slice rfl _ (Gen.k0_off6_wordsbf16 d sub))
    (k0_off11 d (BitVec.ofNat 32 (1 + (0 : Fin 2).val)) (BitVec.ofNat 32 (256 * sub.val))) (Gen.k0_off11_inb d 0 sub)
    (h5.wordExact_slice rfl _ (Gen.k0_off11_wordsbf16 d 0 sub))
    (semAt a13 (gatherIx 0 sub)) (semAt a12 (gatherIx 1 sub)) (semAt a13 (gatherIx 1 sub)) n k

/-- The all-gather's second step, leftward ring. -/
def gatherR1 (sub : Fin 2) (n : Dev nD) (k : KProg F) : KProg F :=
  agNext a5 (k0_off10 d (BitVec.ofNat 32 (256 * sub.val))) (Gen.k0_off10_inb d sub) (h5.wordExact_slice rfl _ (Gen.k0_off10_wordsbf16 d sub))
    (k0_off12 d (BitVec.ofNat 32 (1 + (0 : Fin 2).val)) (BitVec.ofNat 32 (256 * sub.val))) (Gen.k0_off12_inb d 0 sub)
    (h5.wordExact_slice rfl _ (Gen.k0_off12_wordsbf16 d 0 sub))
    (semAt a15 (gatherIx 0 sub)) (semAt a14 (gatherIx 1 sub)) (semAt a15 (gatherIx 1 sub)) n k

/-- The all-gather's third step, rightward ring. -/
def gatherL2 (sub : Fin 2) (n : Dev nD) (k : KProg F) : KProg F :=
  agNext a5 (k0_off11 d (BitVec.ofNat 32 (1 + (0 : Fin 2).val)) (BitVec.ofNat 32 (256 * sub.val))) (Gen.k0_off11_inb d 0 sub)
    (h5.wordExact_slice rfl _ (Gen.k0_off11_wordsbf16 d 0 sub))
    (k0_off11 d (BitVec.ofNat 32 (1 + (1 : Fin 2).val)) (BitVec.ofNat 32 (256 * sub.val))) (Gen.k0_off11_inb d 1 sub)
    (h5.wordExact_slice rfl _ (Gen.k0_off11_wordsbf16 d 1 sub))
    (semAt a13 (gatherIx 1 sub)) (semAt a12 (gatherIx 2 sub)) (semAt a13 (gatherIx 2 sub)) n k

/-- The all-gather's third step, leftward ring. -/
def gatherR2 (sub : Fin 2) (n : Dev nD) (k : KProg F) : KProg F :=
  agNext a5 (k0_off12 d (BitVec.ofNat 32 (1 + (0 : Fin 2).val)) (BitVec.ofNat 32 (256 * sub.val))) (Gen.k0_off12_inb d 0 sub)
    (h5.wordExact_slice rfl _ (Gen.k0_off12_wordsbf16 d 0 sub))
    (k0_off12 d (BitVec.ofNat 32 (1 + (1 : Fin 2).val)) (BitVec.ofNat 32 (256 * sub.val))) (Gen.k0_off12_inb d 1 sub)
    (h5.wordExact_slice rfl _ (Gen.k0_off12_wordsbf16 d 1 sub))
    (semAt a15 (gatherIx 1 sub)) (semAt a14 (gatherIx 2 sub)) (semAt a15 (gatherIx 2 sub)) n k

/-- The last two arrivals of row block `sub` are awaited. -/
def lastWaits (sub : Fin 2) (k : KProg F) : KProg F :=
  wait (semAt a13 (gatherIx 2 sub))
    (outRef a5 (k0_off11 d (BitVec.ofNat 32 (1 + (1 : Fin 2).val)) (BitVec.ofNat 32 (256 * sub.val))) (Gen.k0_off11_inb d 1 sub))
    (outRef a5 (k0_off11 d (BitVec.ofNat 32 (1 + (1 : Fin 2).val)) (BitVec.ofNat 32 (256 * sub.val))) (Gen.k0_off11_inb d 1 sub))
    (h5.wordExact_slice rfl _ (Gen.k0_off11_wordsbf16 d 1 sub)) (h5.wordExact_slice rfl _ (Gen.k0_off11_wordsbf16 d 1 sub)) <|
  wait (semAt a15 (gatherIx 2 sub))
    (outRef a5 (k0_off12 d (BitVec.ofNat 32 (1 + (1 : Fin 2).val)) (BitVec.ofNat 32 (256 * sub.val))) (Gen.k0_off12_inb d 1 sub))
    (outRef a5 (k0_off12 d (BitVec.ofNat 32 (1 + (1 : Fin 2).val)) (BitVec.ofNat 32 (256 * sub.val))) (Gen.k0_off12_inb d 1 sub))
    (h5.wordExact_slice rfl _ (Gen.k0_off12_wordsbf16 d 1 sub)) (h5.wordExact_slice rfl _ (Gen.k0_off12_wordsbf16 d 1 sub)) k

/-- Wait for the departure of a reduce-scatter copy. -/
def leftSlot (sb cm : Memref sig .tc .vmem S3x512x512 .bf16) (hsb : sb.IsWhole) (hcm : cm.IsWhole) (A : DmaSems sig S12)
    (s : Fin 3) (sub : Fin 2) (k : KProg F) : KProg F :=
  wait (semAt A (stepIx s sub)) (slotRef cm s sub) (slotRef sb s sub) (slotRef_words hcm s sub) (slotRef_words hsb s sub) k

/-- Wait for the departure of the six reduce-scatter copies of a ring. -/
def leftSlots (sb cm : Memref sig .tc .vmem S3x512x512 .bf16) (hsb : sb.IsWhole) (hcm : cm.IsWhole) (A : DmaSems sig S12)
    (k : KProg F) : KProg F :=
  leftSlot sb cm hsb hcm A 0 0 <| leftSlot sb cm hsb hcm A 0 1 <| leftSlot sb cm hsb hcm A 1 0 <|
  leftSlot sb cm hsb hcm A 1 1 <| leftSlot sb cm hsb hcm A 2 0 <| leftSlot sb cm hsb hcm A 2 1 k

/-- Wait for the departure of a copy of an output block. -/
def leftOut (o : Memref sig .tc .vmem S2048x1024 .bf16) (ho : o.IsWhole) (s : DmaSem sig)
    (off : Fin 2 → Nat) (inb : ∀ a, off a + S256x512.size a ≤ S2048x1024.size a) (hw : (outRef o off inb).view.WordExact)
    (k : KProg F) : KProg F :=
  wait s (outRef o off inb) (outRef o off inb) hw hw k

/-- Wait for the departure of the rightward ring's all-gather copies. -/
def leftOutsL (k : KProg F) : KProg F :=
  leftOut a5 h5 (semAt a12 (gatherIx 0 0)) _ (Gen.k0_off6_inb d 0) (h5.wordExact_slice rfl _ (Gen.k0_off6_wordsbf16 d 0)) <|
  leftOut a5 h5 (semAt a12 (gatherIx 0 1)) _ (Gen.k0_off6_inb d 1) (h5.wordExact_slice rfl _ (Gen.k0_off6_wordsbf16 d 1)) <|
  leftOut a5 h5 (semAt a12 (gatherIx 1 0)) _ (Gen.k0_off11_inb d 0 0) (h5.wordExact_slice rfl _ (Gen.k0_off11_wordsbf16 d 0 0)) <|
  leftOut a5 h5 (semAt a12 (gatherIx 1 1)) _ (Gen.k0_off11_inb d 0 1) (h5.wordExact_slice rfl _ (Gen.k0_off11_wordsbf16 d 0 1)) <|
  leftOut a5 h5 (semAt a12 (gatherIx 2 0)) _ (Gen.k0_off11_inb d 1 0) (h5.wordExact_slice rfl _ (Gen.k0_off11_wordsbf16 d 1 0)) <|
  leftOut a5 h5 (semAt a12 (gatherIx 2 1)) _ (Gen.k0_off11_inb d 1 1) (h5.wordExact_slice rfl _ (Gen.k0_off11_wordsbf16 d 1 1)) k

/-- Wait for the departure of the leftward ring's all-gather copies. -/
def leftOutsR (k : KProg F) : KProg F :=
  leftOut a5 h5 (semAt a14 (gatherIx 0 0)) _ (Gen.k0_off10_inb d 0) (h5.wordExact_slice rfl _ (Gen.k0_off10_wordsbf16 d 0)) <|
  leftOut a5 h5 (semAt a14 (gatherIx 0 1)) _ (Gen.k0_off10_inb d 1) (h5.wordExact_slice rfl _ (Gen.k0_off10_wordsbf16 d 1)) <|
  leftOut a5 h5 (semAt a14 (gatherIx 1 0)) _ (Gen.k0_off12_inb d 0 0) (h5.wordExact_slice rfl _ (Gen.k0_off12_wordsbf16 d 0 0)) <|
  leftOut a5 h5 (semAt a14 (gatherIx 1 1)) _ (Gen.k0_off12_inb d 0 1) (h5.wordExact_slice rfl _ (Gen.k0_off12_wordsbf16 d 0 1)) <|
  leftOut a5 h5 (semAt a14 (gatherIx 2 0)) _ (Gen.k0_off12_inb d 1 0) (h5.wordExact_slice rfl _ (Gen.k0_off12_wordsbf16 d 1 0)) <|
  leftOut a5 h5 (semAt a14 (gatherIx 2 1)) _ (Gen.k0_off12_inb d 1 1) (h5.wordExact_slice rfl _ (Gen.k0_off12_wordsbf16 d 1 1)) k

/-- The kernel body as the sequence of its phases. -/
def body : KProg F :=
  .op .deviceId fun d =>
  start a0 a1 a2 a6 h6 a7 h7 d <|
  firstL a2 a3 a6 a7 a8 h8 a10 h10 a12 a13 d 0 ⟨k0_dev3 d, Gen.k0_dev3_lt d⟩ <|
  firstR a2 a3 a6 a7 a9 h9 a11 h11 a14 a15 d 0 ⟨k0_dev4 d, Gen.k0_dev4_lt d⟩ <|
  firstL a2 a3 a6 a7 a8 h8 a10 h10 a12 a13 d 1 ⟨k0_dev5 d, Gen.k0_dev5_lt d⟩ <|
  firstR a2 a3 a6 a7 a9 h9 a11 h11 a14 a15 d 1 ⟨k0_dev6 d, Gen.k0_dev6_lt d⟩ <|
  nextL a2 a3 a6 a7 a8 h8 a10 h10 a12 a13 d 0 1 0 ⟨k0_dev7 d, Gen.k0_dev7_lt d⟩ <|
  nextR a2 a3 a6 a7 a9 h9 a11 h11 a14 a15 d 0 1 0 ⟨k0_dev8 d, Gen.k0_dev8_lt d⟩ <|
  nextL a2 a3 a6 a7 a8 h8 a10 h10 a12 a13 d 0 1 1 ⟨k0_dev9 d, Gen.k0_dev9_lt d⟩ <|
  nextR a2 a3 a6 a7 a9 h9 a11 h11 a14 a15 d 0 1 1 ⟨k0_dev10 d, Gen.k0_dev10_lt d⟩ <|
  nextL a2 a3 a6 a7 a8 h8 a10 h10 a12 a13 d 1 2 0 ⟨k0_dev11 d, Gen.k0_dev11_lt d⟩ <|
  nextR a2 a3 a6 a7 a9 h9 a11 h11 a14 a15 d 1 2 0 ⟨k0_dev12 d, Gen.k0_dev12_lt d⟩ <|
  nextL a2 a3 a6 a7 a8 h8 a10 h10 a12 a13 d 1 2 1 ⟨k0_dev13 d, Gen.k0_dev13_lt d⟩ <|
  nextR a2 a3 a6 a7 a9 h9 a11 h11 a14 a15 d 1 2 1 ⟨k0_dev14 d, Gen.k0_dev14_lt d⟩ <|
  ownL a2 a3 a4 a5 h5 a6 a7 a8 h8 a10 h10 a12 a13 d 0 ⟨k0_dev15 d, Gen.k0_dev15_lt d⟩ <|
  ownR a2 a3 a4 a5 h5 a6 a7 a9 h9 a11 h11 a14 a15 d 0 ⟨k0_dev16 d, Gen.k0_dev16_lt d⟩ <|
  ownL a2 a3 a4 a5 h5 a6 a7 a8 h8 a10 h10 a12 a13 d 1 ⟨k0_dev17 d, Gen.k0_dev17_lt d⟩ <|
  ownR a2 a3 a4 a5 h5 a6 a7 a9 h9 a11 h11 a14 a15 d 1 ⟨k0_dev18 d, Gen.k0_dev18_lt d⟩ <|
  gatherL1 a5 h5 a12 a13 d 0 ⟨k0_dev19 d, Gen.k0_dev19_lt d⟩ <|
  gatherR1 a5 h5 a14 a15 d 0 ⟨k0_dev20 d, Gen.k0_dev20_lt d⟩ <|
  gatherL1 a5 h5 a12 a13 d 1 ⟨k0_dev21 d, Gen.k0_dev21_lt d⟩ <|
  gatherR1 a5 h5 a14 a15 d 1 ⟨k0_dev22 d, Gen.k0_dev22_lt d⟩ <|
  gatherL2 a5 h5 a12 a13 d 0 ⟨k0_dev23 d, Gen.k0_dev23_lt d⟩ <|
  gatherR2 a5 h5 a14 a15 d 0 ⟨k0_dev24 d, Gen.k0_dev24_lt d⟩ <|
  gatherL2 a5 h5 a12 a13 d 1 ⟨k0_dev25 d, Gen.k0_dev25_lt d⟩ <|
  gatherR2 a5 h5 a14 a15 d 1 ⟨k0_dev26 d, Gen.k0_dev26_lt d⟩ <|
  lastWaits a5 h5 a13 a15 d 0 <| lastWaits a5 h5 a13 a15 d 1 <|
  leftSlots a8 a10 h8 h10 a12 <| leftSlots a9 a11 h9 h11 a14 <|
  leftOutsL a5 h5 a12 d <| leftOutsR a5 h5 a14 d <| .ret ⟨⟩

set_option maxRecDepth 65536 in
set_option maxHeartbeats 4000000 in
/-- The printed body is the sequence of its phases. -/
theorem cc0_body_eq (h0 : a0.IsWhole) (h1 : a1.IsWhole) (h2 : a2.IsWhole) (h3 : a3.IsWhole) (h4 : a4.IsWhole) :
    cc0_body (F := F) a0 h0 a1 h1 a2 h2 a3 h3 a4 h4 a5 h5 a6 h6 a7 h7 a8 h8 a9 h9 a10 h10 a11 h11 a12 a13 a14 a15
      = body a0 a1 a2 a3 a4 a5 h5 a6 h6 a7 h7 a8 h8 a9 h9 a10 h10 a11 h11 a12 a13 a14 a15 := by
  rw [cc0_body_eq_skeleton]
  rfl

end Body

end Cert.KernelIdeal.Run

end
-- ==== Proof.Protocol.lean ====
/-
# The copies, their semaphores and what each one carries

Two rings run at once. Ring 0 passes blocks to the next device and carries the left half of the columns, ring 1 passes
them to the previous device and carries the right half. Each ring makes twelve copies: six of the reduce-scatter (three
steps, two row blocks) and six of the all-gather. A copy is named by its ring, its part (0 the reduce-scatter, 1 the
all-gather), its step and its row block.
-/
module

public import proofs.«01_k».proof.Proof.Program
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The rings -/

/-- The device ring `h` passes blocks to. -/
def dst (h : Fin 2) (c : Dev nD) : Dev nD := ⟨(c.val + (if h = 0 then 1 else 3)) % 4, Nat.mod_lt _ (by decide)⟩
/-- The device ring `h` takes blocks from. -/
def src (h : Fin 2) (c : Dev nD) : Dev nD := ⟨(c.val + (if h = 0 then 3 else 1)) % 4, Nat.mod_lt _ (by decide)⟩

theorem src_dst (h : Fin 2) (c : Dev nD) : src h (dst h c) = c := by revert h c; decide
theorem dst_src (h : Fin 2) (c : Dev nD) : dst h (src h c) = c := by revert h c; decide

/-- Ring `h`, as a renaming of the devices. -/
def ring (h : Fin 2) : Dev nD ≃ Dev nD := ⟨dst h, src h, src_dst h, dst_src h⟩

/-- The row chunk device `c` adds to at reduce-scatter step `n`. -/
def chunk (h : Fin 2) (c : Dev nD) (n : ℕ) : Dev nD :=
  ⟨(if h = 0 then c.val + 4 - n else c.val + n) % 4, Nat.mod_lt _ (by decide)⟩
/-- The row chunk device `c` passes on at all-gather step `n`. -/
def gchunk (h : Fin 2) (c : Dev nD) (n : ℕ) : Dev nD :=
  ⟨(if h = 0 then c.val + 5 - n else c.val + 3 + n) % 4, Nat.mod_lt _ (by decide)⟩

/-- A block passed on at one all-gather step is the block the previous device passed on one step before. -/
theorem gchunk_src (h : Fin 2) (c : Dev nD) (s : Fin 2) : gchunk h (src h c) s.val = gchunk h c (s.val + 1) := by
  revert h c s; decide
/-- The chunk a device finishes is the one it passes on first. -/
theorem gchunk_zero (h : Fin 2) (c : Dev nD) : gchunk h c 0 = dst h c := by revert h c; decide

/-! ## The copies -/

/-- A copy: its ring, its part, its step, its row block. -/
abbrev X : Type := Fin 2 × Fin 2 × Fin 3 × Fin 2

/-- A copy's place in its ring's order. -/
abbrev ord (x : X) : ℕ := 6 * x.2.1.val + 2 * x.2.2.1.val + x.2.2.2.val

/-- The semaphore counting a copy's departure. -/
def sendS (x : X) : DmaSem sig := ⟨6 + 24 * x.1.val + ord x, by obtain ⟨h, p, s, b⟩ := x; simp only [ord]; omega⟩
/-- The semaphore counting a copy's arrival. -/
def recvS (x : X) : DmaSem sig := ⟨18 + 24 * x.1.val + ord x, by obtain ⟨h, p, s, b⟩ := x; simp only [ord]; omega⟩

/-- The copy a semaphore belongs to. -/
def copyOf (q : ℕ) : X :=
  (⟨(q - 6) / 24 % 2, Nat.mod_lt _ (by decide)⟩, ⟨(q - 6) / 6 % 2, Nat.mod_lt _ (by decide)⟩,
    ⟨(q - 6) / 2 % 3, Nat.mod_lt _ (by decide)⟩, ⟨(q - 6) % 2, Nat.mod_lt _ (by decide)⟩)

/-- Whether a semaphore counts arrivals. -/
def isRecv (q : ℕ) : Prop := (q - 6) / 12 % 2 = 1

instance (q : ℕ) : Decidable (isRecv q) := by unfold isRecv; infer_instance

theorem copyOf_sendS (x : X) : copyOf (sendS x).val = x := by revert x; decide
theorem copyOf_recvS (x : X) : copyOf (recvS x).val = x := by revert x; decide
theorem isRecv_recvS (x : X) : isRecv (recvS x).val := by revert x; decide
theorem not_isRecv_sendS (x : X) : ¬ isRecv (sendS x).val := by revert x; decide
theorem six_le_sendS (x : X) : 6 ≤ (sendS x).val := by unfold sendS; dsimp only; omega
theorem six_le_recvS (x : X) : 6 ≤ (recvS x).val := by unfold recvS; dsimp only; omega

/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (x : X) : GSem nD τ sig := ((c : Thread nD τ), .dma (sendS x))
abbrev recvCell (c : Dev nD) (x : X) : GSem nD τ sig := ((c : Thread nD τ), .dma (recvS x))

/-- What one copy counts for. -/
abbrev N : ℕ := RefSig.tileCredit S256x512 .bf16
theorem N_pos : 0 < N := RefSig.tileCredit_pos _ _ (by decide)

/-! ## The blocks -/

abbrev V (F : FTy → Type) : Type := Vec F S256x512 .bf16

abbrev xM : Memref sig .tc .vmem S2048x512 .bf16 := Memref.whole cc0_stg0_0
abbrev rwM : Memref sig .tc .vmem S512x32 .bf16 := Memref.whole cc0_stg1_0
abbrev riM : Memref sig .tc .vmem S2048x1 .i32 := Memref.whole cc0_stg2_0
abbrev ewM : Memref sig .tc .vmem S8x512x1024 .bf16 := Memref.whole cc0_stg3_0
abbrev swM : Memref sig .tc .vmem S512x1024 .bf16 := Memref.whole cc0_stg4_0
abbrev oM : Memref sig .tc .vmem S2048x1024 .bf16 := Memref.whole cc0_stg5_0
abbrev ptM : Memref sig .tc .vmem S2048x1 .f32 := Memref.whole cc0_scratch0
abbrev xbM : Memref sig .tc .vmem S2048x512 .bf16 := Memref.whole cc0_scratch1
/-- Ring `h`'s outgoing slots. -/
def sbM : Fin 2 → Memref sig .tc .vmem S3x512x512 .bf16 := fun | 0 => Memref.whole cc0_scratch2 | 1 => Memref.whole cc0_scratch3
/-- Ring `h`'s incoming slots. -/
def cmM : Fin 2 → Memref sig .tc .vmem S3x512x512 .bf16 := fun | 0 => Memref.whole cc0_scratch4 | 1 => Memref.whole cc0_scratch5

theorem sbM_whole (h : Fin 2) : (sbM h).IsWhole := by
  match h with
  | 0 => exact Memref.isWhole_whole _
  | 1 => exact Memref.isWhole_whole _
theorem cmM_whole (h : Fin 2) : (cmM h).IsWhole := by
  match h with
  | 0 => exact Memref.isWhole_whole _
  | 1 => exact Memref.isWhole_whole _

/-- The first row and column of row block `sub` of chunk `q`. -/
abbrev rowOff (q : Dev nD) (sub : Fin 2) : Fin 2 → Nat := ![512 * q.val + 256 * sub.val, 0]
theorem rowOff_inb (q : Dev nD) (sub : Fin 2) : ∀ a, rowOff q sub a + S256x512.size a ≤ S2048x512.size a := by
  revert q sub; decide +kernel
theorem rowOff_inb1 (q : Dev nD) (sub : Fin 2) : ∀ a, rowOff q sub a + S256x1.size a ≤ S2048x1.size a := by
  revert q sub; decide +kernel
/-- The first row and column of that block's half `h` in the result. -/
abbrev blkOff (q : Dev nD) (sub h : Fin 2) : Fin 2 → Nat := ![512 * q.val + 256 * sub.val, 512 * h.val]
theorem blkOff_inb (q : Dev nD) (sub h : Fin 2) : ∀ a, blkOff q sub h a + S256x512.size a ≤ S2048x1024.size a := by
  revert q sub h; decide +kernel
/-- A half-block of the result. -/
abbrev outB (q : Dev nD) (sub h : Fin 2) : Memref sig .tc .vmem S256x512 .bf16 := outRef oM (blkOff q sub h) (blkOff_inb q sub h)

/-- Where copy `x` of device `c` reads, on `c`. -/
def srcM (c : Dev nD) (x : X) : Memref sig .tc .vmem S256x512 .bf16 :=
  match x with
  | (h, 0, s, b) => slotRef (sbM h) s b
  | (h, 1, s, b) => outB (gchunk h c s.val) b h
/-- Where copy `x` of device `c` writes, on the device it goes to. -/
def dstM (c : Dev nD) (x : X) : Memref sig .tc .vmem S256x512 .bf16 :=
  match x with
  | (h, 0, s, b) => slotRef (cmM h) s b
  | (h, 1, s, b) => outB (gchunk h c s.val) b h

theorem srcM_credit (c : Dev nD) (x : X) : (srcM c x).view.dmaCredit = N := by
  obtain ⟨h, p, s, b⟩ := x
  match p, h with
  | 0, 0 => rfl
  | 0, 1 => rfl
  | 1, _ => rfl
theorem dstM_credit (c : Dev nD) (x : X) : (dstM c x).view.dmaCredit = N := by
  obtain ⟨h, p, s, b⟩ := x
  match p, h with
  | 0, 0 => rfl
  | 0, 1 => rfl
  | 1, _ => rfl

/-! ## What the blocks hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The five operands as the kernel on device `c` is given them. -/
def vx (c : Dev nD) : Vec F S2048x512 .bf16 := (win0_0.blk (0 : Fin 1)).view.read (Elt F) (m ((c : Thread nD τ).loc main_arg0))
def vrw (c : Dev nD) : Vec F S512x32 .bf16 := (win0_1.blk (0 : Fin 1)).view.read (Elt F) (m ((c : Thread nD τ).loc main_arg1))
def vri (c : Dev nD) : Vec F S2048x1 .i32 := (win0_2.blk (0 : Fin 1)).view.read (Elt F) (m ((c : Thread nD τ).loc main_arg2))
def vew (c : Dev nD) : Vec F S8x512x1024 .bf16 := (win0_3.blk (0 : Fin 1)).view.read (Elt F) (m ((c : Thread nD τ).loc main_arg3))
def vsw (c : Dev nD) : Vec F S512x1024 .bf16 := (win0_4.blk (0 : Fin 1)).view.read (Elt F) (m ((c : Thread nD τ).loc main_arg4))

/-- The tokens, as the kernel keeps them. -/
def vxb (c : Dev nD) : Vec F S2048x512 .bf16 := k0_pay1 (vx m c)
/-- The router's weight of each token's expert. -/
def vpt (c : Dev nD) : Vec F S2048x1 .f32 := k0_pay4 (k0_pay2 (vxb m c) (vrw m c)) (k0_pay3 (vxb m c) (vrw m c)) (vri m c)

/-- The rows of a row block, of the three per-token arrays, and the columns of the matrices. -/
def rowsX (f : Vec F S2048x512 .bf16) (q : Dev nD) (sub : Fin 2) : Vec F S256x512 .bf16 :=
  xbM.view.readAt (Elt F) (Rect.unit (s := S2048x512) (rowOff q sub) S256x512.size (rowOff_inb q sub)).toLoadRect f
def rowsI (f : Vec F S2048x1 .i32) (q : Dev nD) (sub : Fin 2) : Vec F S256x1 .i32 :=
  riM.view.readAt (Elt F) (Rect.unit (s := S2048x1) (rowOff q sub) S256x1.size (rowOff_inb1 q sub)).toLoadRect f
def rowsP (f : Vec F S2048x1 .f32) (q : Dev nD) (sub : Fin 2) : Vec F S256x1 .f32 :=
  ptM.view.readAt (Elt F) (Rect.unit (s := S2048x1) (rowOff q sub) S256x1.size (rowOff_inb1 q sub)).toLoadRect f
def colsW (f : Vec F S8x512x1024 .bf16) (h : Fin 2) (le : Fin 8) : Vec F S1x512x512 .bf16 :=
  ewM.view.readAt (Elt F) (Rect.unit (s := S8x512x1024) (wOff le h) S1x512x512.size (wOff_inb le h)).toLoadRect f
def colsS (f : Vec F S512x1024 .bf16) (h : Fin 2) : Vec F S512x512 .bf16 :=
  swM.view.readAt (Elt F) (Rect.unit (s := S512x1024) (swOff h) S512x512.size (swOff_inb h)).toLoadRect f

/-- Device `c`'s partial product of row block `sub` of chunk `q`, columns of ring `h`. -/
def part (c : Dev nD) (h : Fin 2) (q : Dev nD) (sub : Fin 2) : FVec F S256x512 .f32 :=
  halfVal (baseWord c) (rowsX (vxb m c) q sub) (rowsI (vri m c) q sub) (rowsP (vpt m c) q sub) (colsW (vew m c) h)

/-- What device `c` sends at reduce-scatter step `n`. -/
def sblk (h sub : Fin 2) : ℕ → Dev nD → V F
  | 0, c => truncf .bf16 (part m c h (chunk h c 0) sub) Gen.bitsLt_bf16_f32
  | n + 1, c => truncf .bf16 (addf (extf .f32 (sblk h sub n (src h c)) Gen.bitsLt_bf16_f32) (part m c h (chunk h c (n + 1)) sub)) Gen.bitsLt_bf16_f32

/-- The half-block device `c` finishes. -/
def fblk (h sub : Fin 2) (c : Dev nD) : V F :=
  truncf .bf16 (addf (addf (extf .f32 (sblk m h sub 2 (src h c)) Gen.bitsLt_bf16_f32) (part m c h (dst h c) sub))
    (sharedVal (rowsX (vxb m c) (dst h c) sub) (colsS (vsw m c) h))) Gen.bitsLt_bf16_f32

/-- The result's half-block: that of the device that finishes it. -/
def oblk (q : Dev nD) (sub h : Fin 2) : V F := fblk m h sub (src h q)

/-- What copy `x` of device `c` carries. -/
def val (c : Dev nD) (x : X) : V F :=
  match x with
  | (h, 0, s, b) => sblk m h b s.val c
  | (h, 1, s, b) => oblk m (gchunk h c s.val) b h

end Cert.KernelIdeal.Run

end
-- ==== Proof.Schedule.lean ====
/-
# The schedule of the copies

Each semaphore has one round. A barrier's payments hand over the blocks the neighbours' copies go to; a departure hands
back the block sent; an arrival hands over the block received, with what it holds.
-/
module

public import proofs.«01_k».proof.Proof.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev D : Type := Fin 2
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- Device `c` holds the block `M` names, at any contents. -/
def any (c : Dev nD) (M : Memref sig .tc .vmem S256x512 .bf16) : sProp 𝕄 :=
  iprop(∃ f : Buf (Elt F) (M.view.loc (c : Thread nD τ)), M.view.loc (c : Thread nD τ) ↦[M.view.set]{fullShare} f)

/-- Device `c` holds the block `M` names, with `v` in it. -/
def has (c : Dev nD) (M : Memref sig .tc .vmem S256x512 .bf16) (v : V F) : sProp 𝕄 :=
  iprop(∃ f : Buf (Elt F) (M.view.loc (c : Thread nD τ)), ⌜M.view.read (Elt F) f = v⌝ ∗ (M.view.loc (c : Thread nD τ) ↦[M.view.set]{fullShare} f))

instance any_storable (c : Dev nD) (M) : BI.Storable (upEmb : UEmb _ 𝕄) (any (F := F) c M) := by unfold any; infer_instance
instance has_storable (c : Dev nD) (M) (v : V F) : BI.Storable (upEmb : UEmb _ 𝕄) (has c M v) := by unfold has; infer_instance

omit [FloatOps F] in
theorem has_any (c : Dev nD) (M) (v : V F) : (has c M v : sProp 𝕄) ⊢ any c M := by
  unfold has any; iintro ⟨%f, -, H⟩; iexists f; iexact H

/-! ## The schedule -/

/-- What a departure hands back: the block sent. -/
def sendPay (c : Dev nD) (x : X) : sProp 𝕄 := has c (srcM c x) (val m c x)
/-- What an arrival hands over: the block the previous device sent, where it sent it. -/
def recvPay (c : Dev nD) (x : X) : sProp 𝕄 := has c (dstM (src x.1 c) x) (val m (src x.1 c) x)
/-- What the device ring `h` passes blocks to hands over when it reaches the barrier: every block of its own that
    ring's copies go to. -/
def barPay (h : Fin 2) (c : Dev nD) : sProp 𝕄 := bigSep Finset.univ fun y : Fin 2 × Fin 3 × Fin 2 => any (dst h c) (dstM c (h, y))

instance sendPay_storable (c : Dev nD) (x : X) : BI.Storable (upEmb : UEmb _ 𝕄) (sendPay m c x) := by unfold sendPay; infer_instance
instance recvPay_storable (c : Dev nD) (x : X) : BI.Storable (upEmb : UEmb _ 𝕄) (recvPay m c x) := by unfold recvPay; infer_instance
instance barPay_storable (h : Fin 2) (c : Dev nD) : BI.Storable (upEmb : UEmb _ 𝕄) (barPay (F := F) h c) := by unfold barPay; infer_instance

/-- One round. A barrier cell has a duty for each ring, of one unit, paid by the device that ring passes blocks to; a
    departure or arrival cell has one duty of a block's worth. -/
def Rd : Rounds.Schedule (GSem nD τ sig) D 𝕄 where
  duties g r := if r = 0 ∧ g.1.2 = .tc then (match g.2 with | .reg _ => Finset.univ | .dma q => if 6 ≤ q.val then {0} else ∅) else ∅
  unitless _ := False
  amount g _ _ := match g.2 with | .reg _ => 1 | .dma _ => N
  payload g _ d := match g.2 with
    | .reg _ => barPay d g.1.1
    | .dma q => if isRecv q.val then recvPay m g.1.1 (copyOf q.val) else sendPay m g.1.1 (copyOf q.val)
  amount_pos g _ _ _ := by
    rcases g with ⟨t, s | s⟩
    · exact Nat.one_pos
    · exact N_pos

instance Rd_payload_storable (g : GSem nD τ sig) (r : ℕ) (d : D) :
    BI.Storable (upEmb : UEmb _ 𝕄) ((Rd m).payload g r d) := by
  rcases g with ⟨t, s | s⟩
  · exact barPay_storable d t.1
  · show BI.Storable upEmb (if isRecv s.val then recvPay m t.1 (copyOf s.val) else sendPay m t.1 (copyOf s.val))
    split <;> infer_instance

section Table
variable (c : Dev nD) (x : X)

theorem duties_bar : (Rd m).duties (barCell c) 0 = Finset.univ := by dsimp only [Rd]; exact if_pos ⟨rfl, rfl⟩
theorem duties_send : (Rd m).duties (sendCell c x) 0 = {0} := by
  dsimp only [Rd]; rw [if_pos ⟨rfl, rfl⟩]; exact if_pos (six_le_sendS x)
theorem duties_recv : (Rd m).duties (recvCell c x) 0 = {0} := by
  dsimp only [Rd]; rw [if_pos ⟨rfl, rfl⟩]; exact if_pos (six_le_recvS x)
theorem duties_later (g : GSem nD τ sig) : ∀ r, 1 ≤ r → (Rd m).duties g r = ∅ :=
  fun r hr => by dsimp only [Rd]; rw [if_neg fun h => by omega]
theorem amount_bar (d : D) : (Rd m).amount (barCell c) 0 d = 1 := rfl
theorem amount_send (d : D) : (Rd m).amount (sendCell c x) 0 d = N := rfl
theorem amount_recv (d : D) : (Rd m).amount (recvCell c x) 0 d = N := rfl
theorem expect_bar : (Rd m).expect (barCell c) 0 = 2 := by
  unfold Rounds.Schedule.expect Rounds.Schedule.amountOf; rw [duties_bar, Finset.sum_congr rfl fun d _ => amount_bar m c d]; decide
theorem expect_send : (Rd m).expect (sendCell c x) 0 = N := by
  unfold Rounds.Schedule.expect Rounds.Schedule.amountOf; rw [duties_send, Finset.sum_singleton, amount_send]
theorem expect_recv : (Rd m).expect (recvCell c x) 0 = N := by
  unfold Rounds.Schedule.expect Rounds.Schedule.amountOf; rw [duties_recv, Finset.sum_singleton, amount_recv]
theorem payload_bar (d : D) : (Rd m).payload (barCell c) 0 d = barPay d c := rfl
theorem payload_send (d : D) : (Rd m).payload (sendCell c x) 0 d = sendPay m c x := by
  dsimp only [Rd]; rw [if_neg (not_isRecv_sendS x), copyOf_sendS]
theorem payload_recv (d : D) : (Rd m).payload (recvCell c x) 0 d = recvPay m c x := by
  dsimp only [Rd]; rw [if_pos (isRecv_recvS x), copyOf_recvS]
theorem rest_bar : bigSep ((Rd m).duties (barCell c) 0 \ ∅) (fun d => (Rd m).payload (barCell c) 0 d) = iprop(barPay 0 c ∗ barPay 1 c) := by
  rw [Finset.sdiff_empty, duties_bar, bigSep_univ_eq_bigSepL [(0 : Fin 2), (1 : Fin 2)] (by decide) (by decide)]; rfl
theorem rest_send : bigSep ((Rd m).duties (sendCell c x) 0 \ ∅) (fun d => (Rd m).payload (sendCell c x) 0 d) = sendPay m c x := by
  rw [Finset.sdiff_empty, duties_send, bigSep_singleton, payload_send]
theorem rest_recv : bigSep ((Rd m).duties (recvCell c x) 0 \ ∅) (fun d => (Rd m).payload (recvCell c x) 0 d) = recvPay m c x := by
  rw [Finset.sdiff_empty, duties_recv, bigSep_singleton, payload_recv]

end Table

/-! ## What a device owes, and the order of the waits -/

/-- The arrivals device `c` owes for the copies of a list, the first one added last. -/
def owe (c : Dev nD) : List X → CellTallies nD τ sig Unit
  | [] => 0
  | x :: l => owe c l + tallyAt (recvCell (dst x.1 c) x) () N

/-- The copies in the order the kernel starts them. -/
def order : List X :=
  [(0,0,0,0), (1,0,0,0), (0,0,0,1), (1,0,0,1), (0,0,1,0), (1,0,1,0), (0,0,1,1), (1,0,1,1), (0,0,2,0), (1,0,2,0), (0,0,2,1), (1,0,2,1),
   (0,1,0,0), (1,1,0,0), (0,1,0,1), (1,1,0,1), (0,1,1,0), (1,1,1,0), (0,1,1,1), (1,1,1,1), (0,1,2,0), (1,1,2,0), (0,1,2,1), (1,1,2,1)]

theorem order_nodup : order.Nodup := by decide
theorem mem_order (x : X) : x ∈ order := by revert x; decide

/-- What device `c` owes at first: every copy's arrival, and a unit to each neighbour's barrier. -/
def O₁ (c : Dev nD) : CellTallies nD τ sig Unit := owe c order + tallyAt (barCell (src 1 c)) () 1
def O₀ (c : Dev nD) : CellTallies nD τ sig Unit := O₁ c + tallyAt (barCell (src 0 c)) () 1

def L (g : GSem nD τ sig) : Finset Unit := if g.1.2 = .tc then {()} else ∅
/-- A cell's level: the barrier at 1, the arrivals from 2 up in their ring's order, everything else at 0. -/
def lv (g : GSem nD τ sig) (_ : Unit) : ℕ :=
  match g.2 with | .reg _ => 1 | .dma q => if 6 ≤ q.val ∧ isRecv q.val then 2 + ord (copyOf q.val) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (x : X) (u : Unit) : lv (recvCell c x) u = 2 + ord x := by
  unfold lv; dsimp only; rw [if_pos ⟨six_le_recvS x, isRecv_recvS x⟩, copyOf_recvS]
theorem lv_send (c : Dev nD) (x : X) (u : Unit) : lv (sendCell c x) u = 0 := by
  unfold lv; dsimp only; rw [if_neg fun h => not_isRecv_sendS x h.2]

/-- A tally is positive only at its own cell. -/
theorem tallyAt_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem owe_pos {c : Dev nD} {l : List X} {g : GSem nD τ sig} {u : Unit} (h : 0 < owe c l g u) :
    ∃ x ∈ l, g = recvCell (dst x.1 c) x := by
  induction l with
  | nil => exact absurd h (Nat.lt_irrefl 0)
  | cons x l ih =>
    unfold owe at h
    rw [Pi.add_apply, Finsupp.add_apply] at h
    rcases Nat.eq_zero_or_pos (owe c l g u) with h0 | h1
    · rw [h0, Nat.zero_add] at h
      exact ⟨x, List.mem_cons_self, tallyAt_pos h⟩
    · obtain ⟨y, hy, e⟩ := ih h1
      exact ⟨y, List.mem_cons_of_mem _ hy, e⟩

theorem O₀_pos {c : Dev nD} {g : GSem nD τ sig} {u : Unit} (h : 0 < O₀ c g u) :
    (∃ x, g = recvCell (dst x.1 c) x) ∨ ∃ d, g = barCell d := by
  unfold O₀ O₁ at h
  rw [Pi.add_apply, Finsupp.add_apply, Pi.add_apply, Finsupp.add_apply] at h
  rcases Nat.eq_zero_or_pos (owe c order g u) with h0 | h1
  · rcases Nat.eq_zero_or_pos (tallyAt (barCell (src 1 c)) () 1 g u) with h2 | h2
    · rw [h0, h2, Nat.zero_add] at h
      exact Or.inr ⟨_, tallyAt_pos h⟩
    · exact Or.inr ⟨_, tallyAt_pos h2⟩
  · obtain ⟨x, -, e⟩ := owe_pos h1
    exact Or.inl ⟨x, e⟩

omit [FloatOps F] in
/-- A device may wait on a cell below every arrival it still owes. -/
theorem mayWait_owe (c : Dev nD) (sm : SemLoc sig) (l : List X) (n : ℕ) (hn : lv ((c : Thread nD τ), sm) () ≤ n) (hl : ∀ x ∈ l, n < 2 + ord x) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; exact hn)
    (fun g u hg => by obtain ⟨x, hx, rfl⟩ := owe_pos hg; rw [lv_recv]; exact hl x hx)

omit [FloatOps F] in
/-- A device may wait for its staging at the start, owing everything, and at the end, owing nothing. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | ⟨d, rfl⟩ <;> exact Finset.mem_singleton_self _)
      (fun p hp => by rw [Finset.mem_singleton.mp hp]; dsimp only [lv]; rw [if_neg (fun h => by omega)])
      (fun g u hg => by
        rcases O₀_pos hg with ⟨x, rfl⟩ | ⟨d, rfl⟩
        · rw [lv_recv]; omega
        · rw [lv_bar]; decide)
  · rw [MayWait_zero]; iintro -; iempintro

end Cert.KernelIdeal.Run

end
-- ==== Proof.Steps.lean ====
/-
# The single steps

One rule per kind of step of the kernel: a copy started, an arrival or a departure awaited, a slot or a result block
stored, a slot read, a partial product computed.
-/
module

public import proofs.«01_k».proof.Proof.Schedule

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- A device's cells by name: its barrier, its copies' departures, its copies' arrivals. -/
abbrev KC : Type := Option (Fin 2 × X)
instance : DecidableEq X := inferInstanceAs (DecidableEq (Fin 2 × Fin 2 × Fin 3 × Fin 2))
instance : DecidableEq KC := inferInstanceAs (DecidableEq (Option (Fin 2 × X)))
abbrev csem : KC → SemLoc sig
  | none => .reg barS
  | some (0, x) => .dma (sendS x)
  | some (1, x) => .dma (recvS x)
abbrev kcell (ck : Dev nD × KC) : GSem nD τ sig := ((ck.1 : Thread nD τ), csem ck.2)

/-- Every cell's invariant and that its round 0 is reached, and the cells' levels. -/
def env (K : Dev nD × KC → ℕ) : sProp 𝕄 :=
  iprop((bigSep Finset.univ fun ck : Dev nD × KC => cellInv ER (Rd m) (K ck) (kcell ck))
    ∗ (bigSep Finset.univ fun ck : Dev nD × KC => reached ER (kcell ck) 0) ∗ levAts L lv)

instance env_persistent (K : Dev nD × KC → ℕ) : BI.Persistent (env m K) := by unfold env; infer_instance

variable (K : Dev nD × KC → ℕ)

theorem env_inv (ck : Dev nD × KC) : env m K ⊢ cellInv ER (Rd m) (K ck) (kcell ck) := by
  have h : iprop(bigSep Finset.univ fun ck : Dev nD × KC => cellInv ER (Rd m) (K ck) (kcell ck)) ⊢ cellInv ER (Rd m) (K ck) (kcell ck) :=
    bigSep_elim (Finset.mem_univ ck)
  unfold env; iintro ⟨H, -⟩
  iapply h; iexact H
theorem env_reached (ck : Dev nD × KC) : env m K ⊢ reached ER (kcell ck) 0 := by
  have h : iprop(bigSep Finset.univ fun ck : Dev nD × KC => (reached ER (kcell ck) 0 : sProp 𝕄)) ⊢ reached ER (kcell ck) 0 :=
    bigSep_elim (Finset.mem_univ ck)
  unfold env; iintro ⟨-, H, -⟩
  iapply h; iexact H
theorem env_lev : env m K ⊢ levAts L lv := by
  unfold env; iintro ⟨-, -, H⟩; iexact H

/-! ## A copy's life -/

/-- What device `c` owes, whatever waits it has recorded. -/
def owesE (c : Dev nD) (O : CellTallies nD τ sig Unit) : sProp 𝕄 := iprop(∃ W : Waits sig Unit, owes (c : Thread nD τ) O W)

/-- Before a copy: the block it goes to, the right to start it, the claim on the arrival of the previous device's copy of
    the same name, and the places at both its cells. -/
def todo (c : Dev nD) (x : X) : sProp 𝕄 :=
  iprop(any (dst x.1 c) (dstM c x) ∗ dutyTok ER (sendCell c x) 0 (0 : D) ∗ dutyTok ER (recvCell (dst x.1 c) x) 0 (0 : D)
    ∗ cred (tallyAt (recvCell c x) () N) ∗ atPos ER (recvCell c x) 0 ∅ 0 ∗ atPos ER (sendCell c x) 0 ∅ 0)
/-- After it is started. -/
def going (c : Dev nD) (x : X) : sProp 𝕄 :=
  iprop(cred (tallyAt (sendCell c x) () N) ∗ cred (tallyAt (recvCell c x) () N) ∗ atPos ER (recvCell c x) 0 ∅ 0 ∗ atPos ER (sendCell c x) 0 ∅ 0)
/-- After the previous device's copy of the same name has arrived. -/
def here (c : Dev nD) (x : X) : sProp 𝕄 :=
  iprop(cred (tallyAt (sendCell c x) () N) ∗ atPos ER (sendCell c x) 0 ∅ 0 ∗ semVal (recvCell c x) 0)
/-- After its own departure too. -/
def gone (c : Dev nD) (x : X) : sProp 𝕄 := iprop(semVal (sendCell c x) 0 ∗ semVal (recvCell c x) 0)

variable (c : Dev nD) (Q : PUnit.{1} → sProp (MT nD τ sig Unit (Elt F) ℕ UU ℕ))

/-- The core's program, proved to end in `Q`. -/
abbrev WP (k : KProg F) : sProp 𝕄 := wp frame (wpE (defs₀ (F := F)) 𝒱₀ (c : Thread nD τ) none) Set.univ k Q

/-- A copy is started: the block sent goes to its departure's payment, and what is owed shrinks by its arrival. -/
theorem send_spec (x : X) (l : List X) {sM dM : Memref sig .tc .vmem S256x512 .bf16} {sS sR : DmaSem sig} {n : Dev nD}
    (h1 : sM = srcM c x) (h2 : dM = dstM c x) (h3 : sS = sendS x) (h4 : sR = recvS x) (h5 : n = dst x.1 c)
    (hs : sM.view.WordExact) (hd : dM.view.WordExact) (k : KProg F) :
    iprop(env m K ∗ todo c x ∗ has c (srcM c x) (val m c x) ∗ owesE c (owe c (x :: l)))
      ⊢ iprop(((going c x ∗ owesE c (owe c l)) -∗ WP (F := F) c Q k) -∗ WP (F := F) c Q (send sM dM sS sR n hs hd k)) := by
  subst h1 h2 h3 h4 h5
  unfold todo going owesE has any send
  iintro ⟨#HE, ⟨⟨%fd, Hd⟩, HtS, HtR, HcR, HaR, HaS⟩, ⟨%fs, %hfs, Hs⟩, ⟨%W, HO⟩⟩ Hk
  iapply (Rounds.wp_send_pointsTo 𝒱₀ ER (Rd m) (c : Thread nD τ) none (κ₁ := K (c, some (0, x))) (κ₂ := K (dst x.1 c, some (1, x)))
    (r₁ := 0) (r₂ := 0) (d₁ := (0 : D)) (d₂ := (0 : D)) (fs := fs) (fd := fd)
    (by rw [duties_send]; exact Finset.mem_singleton_self _) (by rw [duties_recv]; exact Finset.mem_singleton_self _)
    () () N (by exact dstM_credit c x) (amount_send m c x 0) (amount_recv m (dst x.1 c) x 0) (owe c l) rfl (W := W)
    (by
      rw [payload_send]; unfold sendPay has
      iintro H; iexists fs; isplitr; · ipureintro; exact hfs
      iexact H)
    (by
      rw [payload_recv]; unfold recvPay has
      rw [src_dst]
      iintro H; iexists (dstM c x).view.write (Elt F) fd ((srcM c x).view.read (Elt F) fs) Finset.univ; isplitr
      · ipureintro; exact (View.read_write_univ _ _).trans hfs
      iexact H)) $$ [Hd HtS HtR Hs HO]
  · isplitr; · iapply (env_inv m K (c, some (0, x))); iexact HE
    isplitr; · iapply (env_inv m K (dst x.1 c, some (1, x))); iexact HE
    isplitl [Hs]; · iexact Hs
    isplitl [Hd]; · iexact Hd
    isplitl [HO]; · iexact HO
    isplitl [HtS]; · iexact HtS
    isplitr; · iapply (env_reached m K (c, some (0, x))); iexact HE
    isplitl [HtR]; · iexact HtR
    iapply (env_reached m K (dst x.1 c, some (1, x))); iexact HE
  iintro ⟨Hc, HO⟩
  iapply Hk
  isplitr [HO]
  · isplitl [Hc]; · iexact Hc
    isplitl [HcR]; · iexact HcR
    isplitl [HaR]; · iexact HaR
    iexact HaS
  iexists W; iexact HO

/-- An arrival awaited, owing only arrivals of later steps: the block that came. -/
theorem recv_spec (x : X) (l : List X) (hl : ∀ y ∈ l, 2 + ord x < 2 + ord y) {sM dM : Memref sig .tc .vmem S256x512 .bf16} {sR : DmaSem sig}
    (h4 : sR = recvS x) (hN : dM.view.dmaCredit = N) (hs : sM.view.WordExact) (hd : dM.view.WordExact) (k : KProg F) :
    iprop(env m K ∗ going c x ∗ owesE c (owe c l))
      ⊢ iprop(((here c x ∗ recvPay m c x ∗ owesE c (owe c l)) -∗ WP (F := F) c Q k) -∗ WP (F := F) c Q (wait sR sM dM hs hd k)) := by
  subst h4
  unfold going here owesE wait
  iintro ⟨#HE, ⟨HcS, HcR, HaR, HaS⟩, ⟨%W, HO⟩⟩ Hk
  iapply (Rounds.wp_wait_rest_token 𝒱₀ ER (Rd m) (c : Thread nD τ) none (κ := K (c, some (1, x)))
      (wpE_waitDma2_eq 𝒱₀ (c : Thread nD τ) none Set.univ) (Set.mem_univ _) () (O := owe c l) (W := W) (R := 0) (m := 0) (T := ∅)
      (by rw [Nat.zero_add, expect_recv])) $$ [HcR HO HaR]
  · isplitr; · iapply (env_inv m K (c, some (1, x))); iexact HE
    isplitl [HcR]; · rw [hN]; iexact HcR
    isplitl [HO]; · iexact HO
    isplitr; · iapply (mayWait_owe c _ l (2 + ord x) (le_of_eq (lv_recv c x ())) hl); iapply (env_lev m K); iexact HE
    iexact HaR
  iintro ⟨HO, HaR, -, Hpay⟩
  ihave Hp := (Entails.of_eq (rest_recv m c x)) $$ Hpay
  imod (Rounds.cell_close ER (Rd m) (g := recvCell c x) (κ := K (c, some (1, x))) (Set.mem_univ _) (fun h => h) (R := 0 + 1) (duties_later m _)) $$ [HaR] with Hv
  · isplitr; · iapply (env_inv m K (c, some (1, x))); iexact HE
    iexact HaR
  iapply Hk
  isplitl [HcS HaS Hv]
  · isplitl [HcS]; · iexact HcS
    isplitl [HaS]; · iexact HaS
    iexact Hv
  isplitl [Hp]; · iexact Hp
  iexists _; iexact HO

/-- A departure awaited, owing nothing: the block sent comes back. -/
theorem left_spec (x : X) {sM dM : Memref sig .tc .vmem S256x512 .bf16} {sS : DmaSem sig}
    (h4 : sS = sendS x) (hN : dM.view.dmaCredit = N) (hs : sM.view.WordExact) (hd : dM.view.WordExact) (k : KProg F) :
    iprop(env m K ∗ here c x ∗ owesE c 0)
      ⊢ iprop(((gone c x ∗ sendPay m c x ∗ owesE c 0) -∗ WP (F := F) c Q k) -∗ WP (F := F) c Q (wait sS sM dM hs hd k)) := by
  subst h4
  unfold gone here owesE wait
  iintro ⟨#HE, ⟨HcS, HaS, HvR⟩, ⟨%W, HO⟩⟩ Hk
  iapply (Rounds.wp_wait_rest_token 𝒱₀ ER (Rd m) (c : Thread nD τ) none (κ := K (c, some (0, x)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iapply (env_inv m K (c, some (0, x))); iexact HE
    isplitl [HcS]; · rw [hN]; iexact HcS
    isplitl [HO]; · iexact HO
    isplitr; · rw [MayWait_zero]; iempintro
    iexact HaS
  iintro ⟨HO, HaS, -, Hpay⟩
  ihave Hp := (Entails.of_eq (rest_send m c x)) $$ Hpay
  imod (Rounds.cell_close ER (Rd m) (g := sendCell c x) (κ := K (c, some (0, x))) (Set.mem_univ _) (fun h => h) (R := 0 + 1) (duties_later m _)) $$ [HaS] with Hv
  · isplitr; · iapply (env_inv m K (c, some (0, x))); iexact HE
    iexact HaS
  iapply Hk
  isplitl [Hv HvR]
  · isplitl [Hv]; · iexact Hv
    iexact HvR
  isplitl [Hp]; · iexact Hp
  iexists _; iexact HO

/-! ## The slots and the result's blocks -/

/-- The slot's matrix is the slot's contents, reshaped. -/
theorem slot_set (b : Memref sig .tc .vmem S3x512x512 .bf16) (s : Fin 3) (sub : Fin 2) :
    (b.access (slotRect s sub)).set = (slotRef b s sub).view.set := (View.set_reshape _ _).symm

theorem put_spec (b : Memref sig .tc .vmem S3x512x512 .bf16) (hb : b.IsWhole) (s : Fin 3) (sub : Fin 2) (u : V F) (k : KProg F) :
    any c (slotRef b s sub)
      ⊢ iprop((has c (slotRef b s sub) u -∗ WP (F := F) c Q k)
        -∗ WP (F := F) c Q (putSlot b hb s sub (shapeCast S1x256x512 u Gen.shapeCasts_S256x512_S1x256x512) k)) := by
  unfold any has putSlot
  iintro ⟨%f, H⟩ Hk
  iapply (wp_load_rect 𝒱₀ (c : Thread nD τ) none Set.univ (m := b) (r := slotRect s sub) (S := (slotRef b s sub).view.set) (subset_of_eq (slot_set b s sub))) $$ H
  iintro H
  iapply (wp_store 𝒱₀ (c : Thread nD τ) none Set.univ (m := b) (r := slotRect s sub) (S := (slotRef b s sub).view.set) (Mk := Finset.univ)
    (subset_of_eq (slot_set b s sub))) $$ H
  iintro H
  iapply Hk
  iexists (b.access (slotRect s sub)).write (Elt F) f (shapeCast S1x256x512 u Gen.shapeCasts_S256x512_S1x256x512) Finset.univ; isplitr
  · ipureintro
    refine (Memref.read_squeeze_slice b (slotRect s sub) (fun _ => rfl) _ Gen.shapeCasts_S1x256x512_S256x512 _).trans ?_
    refine (congrArg (fun w => shapeCast S256x512 w Gen.shapeCasts_S1x256x512_S256x512) (View.read_write_univ (v := b.access (slotRect s sub)) _ _)).trans ?_
    exact shapeCast_shapeCast _ _ _
  iexact H

theorem get_spec (b : Memref sig .tc .vmem S3x512x512 .bf16) (s : Fin 3) (sub : Fin 2) (u : V F) (k : Vec F S1x256x512 .bf16 → KProg F) :
    has c (slotRef b s sub) u
      ⊢ iprop((has c (slotRef b s sub) u -∗ WP (F := F) c Q (k (shapeCast S1x256x512 u Gen.shapeCasts_S256x512_S1x256x512)))
        -∗ WP (F := F) c Q (getSlot b s sub k)) := by
  unfold has getSlot
  iintro ⟨%f, %hf, H⟩ Hk
  iapply (wp_load_rect 𝒱₀ (c : Thread nD τ) none Set.univ (m := b) (r := slotRect s sub) (S := (slotRef b s sub).view.set) (subset_of_eq (slot_set b s sub))) $$ H
  iintro H
  rw [show (b.access (slotRect s sub)).read (Elt F) f = shapeCast S1x256x512 u Gen.shapeCasts_S256x512_S1x256x512 from by
    rw [← hf]; exact (shapeCast_shapeCast _ Gen.shapeCasts_S1x256x512_S256x512 Gen.shapeCasts_S256x512_S1x256x512).symm]
  iapply Hk
  iexists f; isplitr; · ipureintro; exact hf
  iexact H

theorem putOut_spec (ho : oM.IsWhole) (q : Dev nD) (sub h : Fin 2) {o : Fin 2 → Nat} (e : o = blkOff q sub h) (inb) (hp) (u : V F) (k : KProg F) :
    any c (outB q sub h)
      ⊢ iprop((has c (outB q sub h) u -∗ WP (F := F) c Q k)
        -∗ WP (F := F) c Q (putOut oM ho o inb hp u k)) := by
  subst e
  unfold any has putOut
  iintro ⟨%f, H⟩ Hk
  iapply (wp_load_rect 𝒱₀ (c : Thread nD τ) none Set.univ (m := oM)
    (r := Rect.unit (s := S2048x1024) (blkOff q sub h) S256x512.size (blkOff_inb q sub h)) (S := (outB q sub h).view.set) (Finset.Subset.refl _)) $$ H
  iintro H
  iapply (wp_store 𝒱₀ (c : Thread nD τ) none Set.univ (m := oM)
    (r := Rect.unit (s := S2048x1024) (blkOff q sub h) S256x512.size (blkOff_inb q sub h)) (S := (outB q sub h).view.set) (Mk := Finset.univ)
    (Finset.Subset.refl _)) $$ H
  iintro H
  iapply Hk
  iexists (outB q sub h).view.write (Elt F) f u Finset.univ; isplitr
  · ipureintro; exact View.read_write_univ (v := (outB q sub h).view) _ _
  iexact H

/-! ## The arrays a device reads -/

/-- The arrays a device reads while it computes. -/
def ins (c : Dev nD) : sProp 𝕄 :=
  iprop((xbM.view.loc (c : Thread nD τ) ↦[Finset.univ]{fullShare} vxb m c) ∗ (riM.view.loc (c : Thread nD τ) ↦[Finset.univ]{fullShare} vri m c)
    ∗ (ptM.view.loc (c : Thread nD τ) ↦[Finset.univ]{fullShare} vpt m c) ∗ (ewM.view.loc (c : Thread nD τ) ↦[Finset.univ]{fullShare} vew m c)
    ∗ (swM.view.loc (c : Thread nD τ) ↦[Finset.univ]{fullShare} vsw m c))

omit [FloatOps F] in
/-- Eight loaded matrices, listed. -/
theorem list8 {α : Type} (f : Fin 8 → α) : ![f 0, f 1, f 2, f 3, f 4, f 5, f 6, f 7] = f := by
  funext i; fin_cases i <;> rfl

theorem loadW_spec (le : Fin 8) (h : Fin 2) (k : Vec F S1x512x512 .bf16 → KProg F) :
    iprop(ewM.view.loc (c : Thread nD τ) ↦[Finset.univ]{fullShare} vew m c)
      ⊢ iprop(((ewM.view.loc (c : Thread nD τ) ↦[Finset.univ]{fullShare} vew m c) -∗ WP (F := F) c Q (k (colsW (vew m c) h le)))
        -∗ WP (F := F) c Q (loadW ewM le h k)) := by
  unfold loadW
  exact wp_load 𝒱₀ (c : Thread nD τ) none Set.univ (m := ewM) (S := Finset.univ) (Finset.subset_univ _)

theorem half_spec (h : Fin 2) (q : Dev nD) (sub : Fin 2) {o1 o2 : Fin 2 → Nat} (e1 : o1 = rowOff q sub) (e2 : o2 = rowOff q sub) (h1) (h2)
    (k : FVec F S256x512 .f32 → KProg F) :
    ins m c ⊢ iprop((ins m c -∗ WP (F := F) c Q (k (part m c h q sub)))
      -∗ WP (F := F) c Q (half xbM riM ptM ewM o1 h1 o2 h2 h (baseWord c) k)) := by
  subst e1 e2
  unfold ins half
  iintro ⟨Hx, Hi, Hp, Hw, Hs⟩ Hk
  iapply (wp_load 𝒱₀ (c : Thread nD τ) none Set.univ (m := xbM) (S := Finset.univ) (Finset.subset_univ _)) $$ Hx
  iintro Hx
  iapply (wp_load 𝒱₀ (c : Thread nD τ) none Set.univ (m := riM) (S := Finset.univ) (Finset.subset_univ _)) $$ Hi
  iintro Hi
  iapply (wp_load 𝒱₀ (c : Thread nD τ) none Set.univ (m := ptM) (S := Finset.univ) (Finset.subset_univ _)) $$ Hp
  iintro Hp
  iapply (loadW_spec m c Q 0 h) $$ Hw
  iintro Hw
  iapply (loadW_spec m c Q 1 h) $$ Hw
  iintro Hw
  iapply (loadW_spec m c Q 2 h) $$ Hw
  iintro Hw
  iapply (loadW_spec m c Q 3 h) $$ Hw
  iintro Hw
  iapply (loadW_spec m c Q 4 h) $$ Hw
  iintro Hw
  iapply (loadW_spec m c Q 5 h) $$ Hw
  iintro Hw
  iapply (loadW_spec m c Q 6 h) $$ Hw
  iintro Hw
  iapply (loadW_spec m c Q 7 h) $$ Hw
  iintro Hw
  rw [list8]
  iapply Hk
  isplitl [Hx]; · iexact Hx
  isplitl [Hi]; · iexact Hi
  isplitl [Hp]; · iexact Hp
  isplitl [Hw]; · iexact Hw
  iexact Hs

end Cert.KernelIdeal.Run

end
-- ==== Proof.Phases.lean ====
/-
# The phases

Each ring carries two independent chains of copies, one per row block. A chain's resources go through nine stages; each
phase of the kernel takes one chain from one stage to the next.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ) (c : Dev nD)
  (Q : PUnit.{1} → sProp (MT nD τ sig Unit (Elt F) ℕ UU ℕ)) (h sub : Fin 2)

/-! ## A chain's stages -/

/-- Outgoing slot `s`, with anything in it. -/
abbrev slotAny (s : Fin 3) : sProp 𝕄 := any c (slotRef (sbM h) s sub)
/-- The block the device finishes, with anything in it. -/
abbrev ownAny : sProp 𝕄 := any c (outB (gchunk h c 0) sub h)

/-- The three reduce-scatter copies of the chain, and its three all-gather copies. -/
abbrev rs (s : Fin 3) : X := (h, 0, s, sub)
abbrev ag (s : Fin 3) : X := (h, 1, s, sub)

def stage0 : sProp 𝕄 :=
  iprop(todo c (rs h sub 0) ∗ todo c (rs h sub 1) ∗ todo c (rs h sub 2) ∗ todo c (ag h sub 0) ∗ todo c (ag h sub 1) ∗ todo c (ag h sub 2)
    ∗ slotAny c h sub 0 ∗ slotAny c h sub 1 ∗ slotAny c h sub 2 ∗ ownAny c h sub)
def stage1 : sProp 𝕄 :=
  iprop(going c (rs h sub 0) ∗ todo c (rs h sub 1) ∗ todo c (rs h sub 2) ∗ todo c (ag h sub 0) ∗ todo c (ag h sub 1) ∗ todo c (ag h sub 2)
    ∗ slotAny c h sub 1 ∗ slotAny c h sub 2 ∗ ownAny c h sub)
def stage2 : sProp 𝕄 :=
  iprop((here c (rs h sub 0) ∗ recvPay m c (rs h sub 0))
    ∗ going c (rs h sub 1) ∗ todo c (rs h sub 2) ∗ todo c (ag h sub 0) ∗ todo c (ag h sub 1) ∗ todo c (ag h sub 2)
    ∗ slotAny c h sub 2 ∗ ownAny c h sub)
def stage3 : sProp 𝕄 :=
  iprop((here c (rs h sub 0) ∗ recvPay m c (rs h sub 0)) ∗ (here c (rs h sub 1) ∗ recvPay m c (rs h sub 1))
    ∗ going c (rs h sub 2) ∗ todo c (ag h sub 0) ∗ todo c (ag h sub 1) ∗ todo c (ag h sub 2) ∗ ownAny c h sub)
/-- All three reduce-scatter blocks have arrived. -/
def summed : sProp 𝕄 :=
  iprop((here c (rs h sub 0) ∗ recvPay m c (rs h sub 0)) ∗ (here c (rs h sub 1) ∗ recvPay m c (rs h sub 1)) ∗ (here c (rs h sub 2) ∗ recvPay m c (rs h sub 2)))
def stage4 : sProp 𝕄 := iprop(summed m c h sub ∗ going c (ag h sub 0) ∗ todo c (ag h sub 1) ∗ todo c (ag h sub 2))
def stage5 : sProp 𝕄 := iprop(summed m c h sub ∗ here c (ag h sub 0) ∗ going c (ag h sub 1) ∗ todo c (ag h sub 2))
def stage6 : sProp 𝕄 := iprop(summed m c h sub ∗ here c (ag h sub 0) ∗ here c (ag h sub 1) ∗ going c (ag h sub 2))
def stage7 : sProp 𝕄 :=
  iprop(summed m c h sub ∗ here c (ag h sub 0) ∗ here c (ag h sub 1) ∗ here c (ag h sub 2) ∗ recvPay m c (ag h sub 2))
/-- A copy's departure and arrival are both done, the block it came from and the block that arrived are back. -/
def back (x : X) : sProp 𝕄 := iprop(gone c x ∗ sendPay m c x)
/-- The reduce-scatter's departures are done too. -/
def stage8 : sProp 𝕄 :=
  iprop((back m c (rs h sub 0) ∗ recvPay m c (rs h sub 0)) ∗ (back m c (rs h sub 1) ∗ recvPay m c (rs h sub 1)) ∗ (back m c (rs h sub 2) ∗ recvPay m c (rs h sub 2))
    ∗ here c (ag h sub 0) ∗ here c (ag h sub 1) ∗ here c (ag h sub 2) ∗ recvPay m c (ag h sub 2))
def stage9 : sProp 𝕄 :=
  iprop((back m c (rs h sub 0) ∗ recvPay m c (rs h sub 0)) ∗ (back m c (rs h sub 1) ∗ recvPay m c (rs h sub 1)) ∗ (back m c (rs h sub 2) ∗ recvPay m c (rs h sub 2))
    ∗ back m c (ag h sub 0) ∗ back m c (ag h sub 1) ∗ back m c (ag h sub 2) ∗ recvPay m c (ag h sub 2))

/-! ## What arrives, by name -/

theorem recv_rs (s : Fin 3) : recvPay m c (rs h sub s) = has c (slotRef (cmM h) s sub) (sblk m h sub s.val (src h c)) := rfl
theorem recv_two : recvPay m c (rs h sub 2) = has c (slotRef (cmM h) 2 sub) (sblk m h sub 2 (src h c)) := rfl
theorem recv_ag (s : Fin 2) : recvPay m c (ag h sub s.castSucc)
    = has c (srcM c (ag h sub s.succ)) (val m c (ag h sub s.succ)) := by
  have e := gchunk_src h c s
  change has c (outB (gchunk h (src h c) s.val) sub h) (oblk m (gchunk h (src h c) s.val) sub h)
    = has c (outB (gchunk h c (s.val + 1)) sub h) (oblk m (gchunk h c (s.val + 1)) sub h)
  rw [e]

/-! ## The reduce-scatter -/

section Phase

variable {o1 o2 : Fin 2 → Nat} (h1 : ∀ a, o1 a + S256x512.size a ≤ S2048x512.size a) (h2 : ∀ a, o2 a + S256x1.size a ≤ S2048x1.size a)
  (hsb : (sbM h).IsWhole) (hcm : (cmM h).IsWhole) {sR' sS sR : DmaSem sig} {n : Dev nD} (k : KProg F) (l : List X)

theorem rsFirst_spec (e1 : o1 = rowOff (chunk h c 0) sub) (e2 : o2 = rowOff (chunk h c 0) sub)
    (eS : sS = sendS (rs h sub 0)) (eR : sR = recvS (rs h sub 0)) (en : n = dst h c) :
    iprop(env m K ∗ ins m c ∗ stage0 c h sub ∗ owesE c (owe c (rs h sub 0 :: l)))
      ⊢ iprop(((ins m c ∗ stage1 c h sub ∗ owesE c (owe c l)) -∗ WP (F := F) c Q k)
        -∗ WP (F := F) c Q (rsFirst xbM riM ptM ewM o1 h1 o2 h2 h (baseWord c) (sbM h) (cmM h) hsb hcm sub sS sR n k)) := by
  unfold stage0 stage1 rsFirst
  iintro ⟨#HE, HI, ⟨T0, T1, T2, T3, T4, T5, S0, S1, S2, Oo⟩, HO⟩ Hk
  iapply (half_spec m c Q h (chunk h c 0) sub e1 e2 h1 h2) $$ HI
  iintro HI
  iapply (put_spec c Q (sbM h) hsb 0 sub (truncf .bf16 (part m c h (chunk h c 0) sub) Gen.bitsLt_bf16_f32)) $$ S0
  iintro S0
  iapply (send_spec m K c Q (rs h sub 0) l rfl rfl eS eR en) $$ [T0 S0 HO]
  · isplitr; · iexact HE
    isplitl [T0]; · iexact T0
    isplitl [S0]; · iexact S0
    iexact HO
  iintro ⟨T0, HO⟩
  iapply Hk
  isplitl [HI]; · iexact HI
  isplitr [HO]
  · isplitl [T0]; · iexact T0
    isplitl [T1]; · iexact T1
    isplitl [T2]; · iexact T2
    isplitl [T3]; · iexact T3
    isplitl [T4]; · iexact T4
    isplitl [T5]; · iexact T5
    isplitl [S1]; · iexact S1
    isplitl [S2]; · iexact S2
    iexact Oo
  iexact HO

/-- A later step: `s'` is the step before `s`. -/
theorem rsNext_step (s' s : Fin 3) (hs : s.val = s'.val + 1) (e1 : o1 = rowOff (chunk h c s.val) sub) (e2 : o2 = rowOff (chunk h c s.val) sub)
    (eR' : sR' = recvS (rs h sub s')) (eS : sS = sendS (rs h sub s)) (eR : sR = recvS (rs h sub s)) (en : n = dst h c)
    (hl : ∀ y ∈ rs h sub s :: l, 2 + ord (rs h sub s') < 2 + ord y) :
    iprop(env m K ∗ ins m c ∗ going c (rs h sub s') ∗ todo c (rs h sub s) ∗ slotAny c h sub s ∗ owesE c (owe c (rs h sub s :: l)))
      ⊢ iprop(((ins m c ∗ (here c (rs h sub s') ∗ recvPay m c (rs h sub s')) ∗ going c (rs h sub s) ∗ owesE c (owe c l)) -∗ WP (F := F) c Q k)
        -∗ WP (F := F) c Q (rsNext xbM riM ptM ewM o1 h1 o2 h2 h (baseWord c) (sbM h) (cmM h) hsb hcm s' s sub sR' sS sR n k)) := by
  unfold rsNext
  iintro ⟨#HE, HI, T', T, S, HO⟩ Hk
  iapply (half_spec m c Q h (chunk h c s.val) sub e1 e2 h1 h2) $$ HI
  iintro HI
  iapply (recv_spec m K c Q (rs h sub s') (rs h sub s :: l) hl eR' rfl) $$ [T' HO]
  · isplitr; · iexact HE
    isplitl [T']; · iexact T'
    iexact HO
  iintro ⟨H', P', HO⟩
  ihave P' := (Entails.of_eq (recv_rs m c h sub s')) $$ P'
  iapply (get_spec c Q (cmM h) s' sub (sblk m h sub s'.val (src h c))) $$ P'
  iintro P'
  rw [show sendNext (shapeCast S1x256x512 (sblk m h sub s'.val (src h c)) Gen.shapeCasts_S256x512_S1x256x512) (part m c h (chunk h c s.val) sub)
    = shapeCast S1x256x512 (sblk m h sub s.val c) Gen.shapeCasts_S256x512_S1x256x512 from by
      rw [hs]; unfold sendNext; rw [shapeCast_shapeCast]; rfl]
  iapply (put_spec c Q (sbM h) hsb s sub (sblk m h sub s.val c)) $$ S
  iintro S
  iapply (send_spec m K c Q (rs h sub s) l rfl rfl eS eR en) $$ [T S HO]
  · isplitr; · iexact HE
    isplitl [T]; · iexact T
    isplitl [S]; · iexact S
    iexact HO
  iintro ⟨T, HO⟩
  iapply Hk
  isplitl [HI]; · iexact HI
  isplitl [H' P']
  · isplitl [H']; · iexact H'
    iapply (Entails.of_eq (recv_rs m c h sub s').symm); iexact P'
  isplitl [T]; · iexact T
  iexact HO

theorem rsNext1_spec (e1 : o1 = rowOff (chunk h c 1) sub) (e2 : o2 = rowOff (chunk h c 1) sub)
    (eR' : sR' = recvS (rs h sub 0)) (eS : sS = sendS (rs h sub 1)) (eR : sR = recvS (rs h sub 1)) (en : n = dst h c)
    (hl : ∀ y ∈ rs h sub 1 :: l, 2 + ord (rs h sub 0) < 2 + ord y) :
    iprop(env m K ∗ ins m c ∗ stage1 c h sub ∗ owesE c (owe c (rs h sub 1 :: l)))
      ⊢ iprop(((ins m c ∗ stage2 m c h sub ∗ owesE c (owe c l)) -∗ WP (F := F) c Q k)
        -∗ WP (F := F) c Q (rsNext xbM riM ptM ewM o1 h1 o2 h2 h (baseWord c) (sbM h) (cmM h) hsb hcm 0 1 sub sR' sS sR n k)) := by
  unfold stage1 stage2
  iintro ⟨#HE, HI, ⟨T0, T1, T2, T3, T4, T5, S1, S2, Oo⟩, HO⟩ Hk
  iapply (rsNext_step m K c Q h sub h1 h2 hsb hcm k l 0 1 rfl e1 e2 eR' eS eR en hl) $$ [HI T0 T1 S1 HO]
  · isplitr; · iexact HE
    isplitl [HI]; · iexact HI
    isplitl [T0]; · iexact T0
    isplitl [T1]; · iexact T1
    isplitl [S1]; · iexact S1
    iexact HO
  iintro ⟨HI, T0, T1, HO⟩
  iapply Hk
  isplitl [HI]; · iexact HI
  isplitr [HO]
  · isplitl [T0]; · iexact T0
    isplitl [T1]; · iexact T1
    isplitl [T2]; · iexact T2
    isplitl [T3]; · iexact T3
    isplitl [T4]; · iexact T4
    isplitl [T5]; · iexact T5
    isplitl [S2]; · iexact S2
    iexact Oo
  iexact HO

theorem rsNext2_spec (e1 : o1 = rowOff (chunk h c 2) sub) (e2 : o2 = rowOff (chunk h c 2) sub)
    (eR' : sR' = recvS (rs h sub 1)) (eS : sS = sendS (rs h sub 2)) (eR : sR = recvS (rs h sub 2)) (en : n = dst h c)
    (hl : ∀ y ∈ rs h sub 2 :: l, 2 + ord (rs h sub 1) < 2 + ord y) :
    iprop(env m K ∗ ins m c ∗ stage2 m c h sub ∗ owesE c (owe c (rs h sub 2 :: l)))
      ⊢ iprop(((ins m c ∗ stage3 m c h sub ∗ owesE c (owe c l)) -∗ WP (F := F) c Q k)
        -∗ WP (F := F) c Q (rsNext xbM riM ptM ewM o1 h1 o2 h2 h (baseWord c) (sbM h) (cmM h) hsb hcm 1 2 sub sR' sS sR n k)) := by
  unfold stage2 stage3
  iintro ⟨#HE, HI, ⟨T0, T1, T2, T3, T4, T5, S2, Oo⟩, HO⟩ Hk
  iapply (rsNext_step m K c Q h sub h1 h2 hsb hcm k l 1 2 rfl e1 e2 eR' eS eR en hl) $$ [HI T1 T2 S2 HO]
  · isplitr; · iexact HE
    isplitl [HI]; · iexact HI
    isplitl [T1]; · iexact T1
    isplitl [T2]; · iexact T2
    isplitl [S2]; · iexact S2
    iexact HO
  iintro ⟨HI, T1, T2, HO⟩
  iapply Hk
  isplitl [HI]; · iexact HI
  isplitr [HO]
  · isplitl [T0]; · iexact T0
    isplitl [T1]; · iexact T1
    isplitl [T2]; · iexact T2
    isplitl [T3]; · iexact T3
    isplitl [T4]; · iexact T4
    isplitl [T5]; · iexact T5
    iexact Oo
  iexact HO

/-! ## The all-gather -/

/-- The finished half-block, as the block of the result it is. -/
theorem final_eq : finalVal (shapeCast S1x256x512 (sblk m h sub 2 (src h c)) Gen.shapeCasts_S256x512_S1x256x512) (part m c h (dst h c) sub)
    (sharedVal (rowsX (vxb m c) (dst h c) sub) (colsS (vsw m c) h)) = val m c (ag h sub 0) := by
  change _ = oblk m (gchunk h c 0) sub h
  unfold oblk finalVal
  rw [gchunk_zero, src_dst, shapeCast_shapeCast]
  rfl

theorem agFirst_spec (ho : oM.IsWhole) (e1 : o1 = rowOff (dst h c) sub) (e2 : o2 = rowOff (dst h c) sub)
    {o3 o4 : Fin 2 → Nat} (h3 : ∀ a, o3 a + S256x512.size a ≤ S2048x1024.size a) (hp) (h4 : ∀ a, o4 a + S256x512.size a ≤ S2048x1024.size a) (hw)
    (e3 : o3 = blkOff (gchunk h c 0) sub h) (e4 : o4 = blkOff (gchunk h c 0) sub h)
    (eR' : sR' = recvS (rs h sub 2)) (eS : sS = sendS (ag h sub 0)) (eR : sR = recvS (ag h sub 0)) (en : n = dst h c)
    (hl : ∀ y ∈ ag h sub 0 :: l, 2 + ord (rs h sub 2) < 2 + ord y) :
    iprop(env m K ∗ ins m c ∗ stage3 m c h sub ∗ owesE c (owe c (ag h sub 0 :: l)))
      ⊢ iprop(((ins m c ∗ stage4 m c h sub ∗ owesE c (owe c l)) -∗ WP (F := F) c Q k)
        -∗ WP (F := F) c Q (agFirst xbM riM ptM ewM swM oM ho o1 h1 o2 h2 h (baseWord c) (sbM h) (cmM h) hsb hcm sub o3 h3 hp o4 h4 hw sR' sS sR n k)) := by
  subst e4
  have ef := final_eq m c h sub
  unfold rowsX colsS at ef
  unfold stage3 stage4 summed agFirst
  iintro ⟨#HE, HI, ⟨T0, T1, T2, T3, T4, T5, Oo⟩, HO⟩ Hk
  iapply (half_spec m c Q h (dst h c) sub e1 e2 h1 h2) $$ HI
  iintro HI
  unfold ins
  icases HI with ⟨Hx, Hi, Hp, Hw, Hs⟩
  subst e1
  iapply (wp_load 𝒱₀ (c : Thread nD τ) none Set.univ (m := xbM) (S := Finset.univ) (Finset.subset_univ _)) $$ Hx
  iintro Hx
  iapply (wp_load 𝒱₀ (c : Thread nD τ) none Set.univ (m := swM) (S := Finset.univ) (Finset.subset_univ _)) $$ Hs
  iintro Hs
  iapply (recv_spec m K c Q (rs h sub 2) (ag h sub 0 :: l) hl eR' rfl) $$ [T2 HO]
  · isplitr; · iexact HE
    isplitl [T2]; · iexact T2
    iexact HO
  iintro ⟨H', P', HO⟩
  ihave P' := (Entails.of_eq (recv_two m c h sub)) $$ P'
  iapply (get_spec c Q (cmM h) 2 sub (sblk m h sub 2 (src h c))) $$ P'
  iintro P'
  iapply (putOut_spec c Q ho (gchunk h c 0) sub h e3 h3 hp _) $$ Oo
  iintro Oo
  ihave Oo := (Entails.of_eq (congrArg (has c (outB (gchunk h c 0) sub h)) ef)) $$ Oo
  iapply (send_spec m K c Q (ag h sub 0) l rfl rfl eS eR en) $$ [T3 Oo HO]
  · isplitr; · iexact HE
    isplitl [T3]; · iexact T3
    isplitl [Oo]; · iexact Oo
    iexact HO
  iintro ⟨T3, HO⟩
  iapply Hk
  isplitl [Hx Hi Hp Hw Hs]
  · isplitl [Hx]; · iexact Hx
    isplitl [Hi]; · iexact Hi
    isplitl [Hp]; · iexact Hp
    isplitl [Hw]; · iexact Hw
    iexact Hs
  isplitr [HO]
  · isplitr [T3 T4 T5]
    · isplitl [T0]; · iexact T0
      isplitl [T1]; · iexact T1
      isplitl [H']; · iexact H'
      iapply (Entails.of_eq (recv_two m c h sub).symm); iexact P'
    isplitl [T3]; · iexact T3
    isplitl [T4]; · iexact T4
    iexact T5
  iexact HO

theorem agNext_step (s : Fin 2) {o3 o4 : Fin 2 → Nat}
    (h3 : ∀ a, o3 a + S256x512.size a ≤ S2048x1024.size a) (hw3) (h4 : ∀ a, o4 a + S256x512.size a ≤ S2048x1024.size a) (hw4)
    (e4 : o4 = blkOff (gchunk h c s.succ.val) sub h)
    (eR' : sR' = recvS (ag h sub s.castSucc)) (eS : sS = sendS (ag h sub s.succ)) (eR : sR = recvS (ag h sub s.succ)) (en : n = dst h c)
    (hl : ∀ y ∈ ag h sub s.succ :: l, 2 + ord (ag h sub s.castSucc) < 2 + ord y) :
    iprop(env m K ∗ going c (ag h sub s.castSucc) ∗ todo c (ag h sub s.succ) ∗ owesE c (owe c (ag h sub s.succ :: l)))
      ⊢ iprop(((here c (ag h sub s.castSucc) ∗ going c (ag h sub s.succ) ∗ owesE c (owe c l)) -∗ WP (F := F) c Q k)
        -∗ WP (F := F) c Q (agNext oM o3 h3 hw3 o4 h4 hw4 sR' sS sR n k)) := by
  subst e4
  unfold agNext
  iintro ⟨#HE, T', T, HO⟩ Hk
  iapply (recv_spec m K c Q (ag h sub s.castSucc) (ag h sub s.succ :: l) hl eR' rfl) $$ [T' HO]
  · isplitr; · iexact HE
    isplitl [T']; · iexact T'
    iexact HO
  iintro ⟨H', P', HO⟩
  ihave P' := (Entails.of_eq (recv_ag m c h sub s)) $$ P'
  iapply (send_spec m K c Q (ag h sub s.succ) l rfl rfl eS eR en) $$ [T P' HO]
  · isplitr; · iexact HE
    isplitl [T]; · iexact T
    isplitl [P']; · iexact P'
    iexact HO
  iintro ⟨T, HO⟩
  iapply Hk
  isplitl [H']; · iexact H'
  isplitl [T]; · iexact T
  iexact HO

theorem agNext1_spec {o3 o4 : Fin 2 → Nat}
    (h3 : ∀ a, o3 a + S256x512.size a ≤ S2048x1024.size a) (hw3) (h4 : ∀ a, o4 a + S256x512.size a ≤ S2048x1024.size a) (hw4)
    (e4 : o4 = blkOff (gchunk h c 1) sub h)
    (eR' : sR' = recvS (ag h sub 0)) (eS : sS = sendS (ag h sub 1)) (eR : sR = recvS (ag h sub 1)) (en : n = dst h c)
    (hl : ∀ y ∈ ag h sub 1 :: l, 2 + ord (ag h sub 0) < 2 + ord y) :
    iprop(env m K ∗ stage4 m c h sub ∗ owesE c (owe c (ag h sub 1 :: l)))
      ⊢ iprop(((stage5 m c h sub ∗ owesE c (owe c l)) -∗ WP (F := F) c Q k)
        -∗ WP (F := F) c Q (agNext oM o3 h3 hw3 o4 h4 hw4 sR' sS sR n k)) := by
  unfold stage4 stage5
  iintro ⟨#HE, ⟨HS, T3, T4, T5⟩, HO⟩ Hk
  iapply (agNext_step m K c Q h sub k l 0 h3 hw3 h4 hw4 e4 eR' eS eR en hl) $$ [T3 T4 HO]
  · isplitr; · iexact HE
    isplitl [T3]; · iexact T3
    isplitl [T4]; · iexact T4
    iexact HO
  iintro ⟨T3, T4, HO⟩
  iapply Hk
  isplitr [HO]
  · isplitl [HS]; · iexact HS
    isplitl [T3]; · iexact T3
    isplitl [T4]; · iexact T4
    iexact T5
  iexact HO

theorem agNext2_spec {o3 o4 : Fin 2 → Nat}
    (h3 : ∀ a, o3 a + S256x512.size a ≤ S2048x1024.size a) (hw3) (h4 : ∀ a, o4 a + S256x512.size a ≤ S2048x1024.size a) (hw4)
    (e4 : o4 = blkOff (gchunk h c 2) sub h)
    (eR' : sR' = recvS (ag h sub 1)) (eS : sS = sendS (ag h sub 2)) (eR : sR = recvS (ag h sub 2)) (en : n = dst h c)
    (hl : ∀ y ∈ ag h sub 2 :: l, 2 + ord (ag h sub 1) < 2 + ord y) :
    iprop(env m K ∗ stage5 m c h sub ∗ owesE c (owe c (ag h sub 2 :: l)))
      ⊢ iprop(((stage6 m c h sub ∗ owesE c (owe c l)) -∗ WP (F := F) c Q k)
        -∗ WP (F := F) c Q (agNext oM o3 h3 hw3 o4 h4 hw4 sR' sS sR n k)) := by
  unfold stage5 stage6
  iintro ⟨#HE, ⟨HS, T3, T4, T5⟩, HO⟩ Hk
  iapply (agNext_step m K c Q h sub k l 1 h3 hw3 h4 hw4 e4 eR' eS eR en hl) $$ [T4 T5 HO]
  · isplitr; · iexact HE
    isplitl [T4]; · iexact T4
    isplitl [T5]; · iexact T5
    iexact HO
  iintro ⟨T4, T5, HO⟩
  iapply Hk
  isplitr [HO]
  · isplitl [HS]; · iexact HS
    isplitl [T3]; · iexact T3
    isplitl [T4]; · iexact T4
    iexact T5
  iexact HO

/-- The last arrival. -/
theorem last_spec {sM dM : Memref sig .tc .vmem S256x512 .bf16} (hN : dM.view.dmaCredit = N) (hs) (hd) (eR : sR = recvS (ag h sub 2)) :
    iprop(env m K ∗ stage6 m c h sub ∗ owesE c (owe c []))
      ⊢ iprop(((stage7 m c h sub ∗ owesE c (owe c [])) -∗ WP (F := F) c Q k)
        -∗ WP (F := F) c Q (wait sR sM dM hs hd k)) := by
  unfold stage6 stage7
  iintro ⟨#HE, ⟨HS, T3, T4, T5⟩, HO⟩ Hk
  iapply (recv_spec m K c Q (ag h sub 2) [] (by simp) eR hN) $$ [T5 HO]
  · isplitr; · iexact HE
    isplitl [T5]; · iexact T5
    iexact HO
  iintro ⟨T5, P5, HO⟩
  iapply Hk
  isplitr [HO]
  · isplitl [HS]; · iexact HS
    isplitl [T3]; · iexact T3
    isplitl [T4]; · iexact T4
    isplitl [T5]; · iexact T5
    iexact P5
  iexact HO

/-- A departure, the block sent back in hand. -/
theorem back_spec (x : X) {sM dM : Memref sig .tc .vmem S256x512 .bf16} (hN : dM.view.dmaCredit = N) (hs) (hd) (eS : sS = sendS x) :
    iprop(env m K ∗ here c x ∗ owesE c 0)
      ⊢ iprop(((back m c x ∗ owesE c 0) -∗ WP (F := F) c Q k) -∗ WP (F := F) c Q (wait sS sM dM hs hd k)) := by
  unfold back
  iintro H Hk
  iapply (left_spec m K c Q x eS hN) $$ H
  iintro ⟨H, P, HO⟩
  iapply Hk
  isplitr [HO]
  · isplitl [H]; · iexact H
    iexact P
  iexact HO

end Phase

end Cert.KernelIdeal.Run

end
-- ==== Proof.Rings.lean ====
/-
# The phases of each ring

The generic phases at the offsets, semaphores and devices the kernel computes, for the rightward and for the leftward
ring.
-/
module

public import proofs.«01_k».proof.Proof.Phases

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets -/

theorem off1_at (d : Dev nD) (s : Fin 3) (b : Fin 2) : k0_off1 d (BitVec.ofNat 32 s.val) (BitVec.ofNat 32 (256 * b.val)) = rowOff (chunk 0 d s.val) b :=
  (Gen.k0_off1_eq d s b).trans (by revert d s b; decide +kernel)
theorem off2_at (d : Dev nD) (s : Fin 3) (b : Fin 2) : k0_off2 d (BitVec.ofNat 32 s.val) (BitVec.ofNat 32 (256 * b.val)) = rowOff (chunk 0 d s.val) b :=
  (Gen.k0_off2_eq d s b).trans (by revert d s b; decide +kernel)
theorem off3_at (d : Dev nD) (s : Fin 3) (b : Fin 2) : k0_off3 d (BitVec.ofNat 32 s.val) (BitVec.ofNat 32 (256 * b.val)) = rowOff (chunk 1 d s.val) b :=
  (Gen.k0_off3_eq d s b).trans (by revert d s b; decide +kernel)
theorem off4_at (d : Dev nD) (s : Fin 3) (b : Fin 2) : k0_off4 d (BitVec.ofNat 32 s.val) (BitVec.ofNat 32 (256 * b.val)) = rowOff (chunk 1 d s.val) b :=
  (Gen.k0_off4_eq d s b).trans (by revert d s b; decide +kernel)
theorem off3_own (d : Dev nD) (b : Fin 2) : k0_off3 d (BitVec.ofNat 32 (1 : Fin 3).val) (BitVec.ofNat 32 (256 * b.val)) = rowOff (dst 0 d) b :=
  (Gen.k0_off3_eq d 1 b).trans (by revert d b; decide +kernel)
theorem off4_own (d : Dev nD) (b : Fin 2) : k0_off4 d (BitVec.ofNat 32 (1 : Fin 3).val) (BitVec.ofNat 32 (256 * b.val)) = rowOff (dst 0 d) b :=
  (Gen.k0_off4_eq d 1 b).trans (by revert d b; decide +kernel)
theorem off5_own (d : Dev nD) (b : Fin 2) : k0_off5 d (BitVec.ofNat 32 (256 * b.val)) = blkOff (gchunk 0 d 0) b 0 :=
  (Gen.k0_off5_eq d b).trans (by revert d b; decide +kernel)
theorem off6_own (d : Dev nD) (b : Fin 2) : k0_off6 d (BitVec.ofNat 32 (256 * b.val)) = blkOff (gchunk 0 d 0) b 0 :=
  (Gen.k0_off6_eq d b).trans (by revert d b; decide +kernel)
theorem off7_own (d : Dev nD) (b : Fin 2) : k0_off7 d (BitVec.ofNat 32 (256 * b.val)) = rowOff (dst 1 d) b :=
  (Gen.k0_off7_eq d b).trans (by revert d b; decide +kernel)
theorem off8_own (d : Dev nD) (b : Fin 2) : k0_off8 d (BitVec.ofNat 32 (256 * b.val)) = rowOff (dst 1 d) b :=
  (Gen.k0_off8_eq d b).trans (by revert d b; decide +kernel)
theorem off9_own (d : Dev nD) (b : Fin 2) : k0_off9 d (BitVec.ofNat 32 (256 * b.val)) = blkOff (gchunk 1 d 0) b 1 :=
  (Gen.k0_off9_eq d b).trans (by revert d b; decide +kernel)
theorem off10_own (d : Dev nD) (b : Fin 2) : k0_off10 d (BitVec.ofNat 32 (256 * b.val)) = blkOff (gchunk 1 d 0) b 1 :=
  (Gen.k0_off10_eq d b).trans (by revert d b; decide +kernel)
theorem off11_at (d : Dev nD) (s b : Fin 2) : k0_off11 d (BitVec.ofNat 32 (1 + s.val)) (BitVec.ofNat 32 (256 * b.val)) = blkOff (gchunk 0 d (1 + s.val)) b 0 :=
  (Gen.k0_off11_eq d s b).trans (by revert d s b; decide +kernel)
theorem off12_at (d : Dev nD) (s b : Fin 2) : k0_off12 d (BitVec.ofNat 32 (1 + s.val)) (BitVec.ofNat 32 (256 * b.val)) = blkOff (gchunk 1 d (1 + s.val)) b 1 :=
  (Gen.k0_off12_eq d s b).trans (by revert d s b; decide +kernel)

/-! ## Semaphores -/

theorem sendL_rs (s : Fin 3) (b : Fin 2) : semAt cc0_scratch6 (stepIx s b) = sendS (rs 0 b s) := by revert s b; decide +kernel
theorem recvL_rs (s : Fin 3) (b : Fin 2) : semAt cc0_scratch7 (stepIx s b) = recvS (rs 0 b s) := by revert s b; decide +kernel
theorem sendR_rs (s : Fin 3) (b : Fin 2) : semAt cc0_scratch8 (stepIx s b) = sendS (rs 1 b s) := by revert s b; decide +kernel
theorem recvR_rs (s : Fin 3) (b : Fin 2) : semAt cc0_scratch9 (stepIx s b) = recvS (rs 1 b s) := by revert s b; decide +kernel
theorem sendL_ag (s : Fin 3) (b : Fin 2) : semAt cc0_scratch6 (gatherIx s b) = sendS (ag 0 b s) := by revert s b; decide +kernel
theorem recvL_ag (s : Fin 3) (b : Fin 2) : semAt cc0_scratch7 (gatherIx s b) = recvS (ag 0 b s) := by revert s b; decide +kernel
theorem sendR_ag (s : Fin 3) (b : Fin 2) : semAt cc0_scratch8 (gatherIx s b) = sendS (ag 1 b s) := by revert s b; decide +kernel
theorem recvR_ag (s : Fin 3) (b : Fin 2) : semAt cc0_scratch9 (gatherIx s b) = recvS (ag 1 b s) := by revert s b; decide +kernel

/-! ## The phases -/

variable (m : (ℓ : Loc nD τ sig) → Buf (Elt F) ℓ) (K : Dev nD × KC → ℕ) (c : Dev nD)
  (Q : PUnit.{1} → sProp (MT nD τ sig Unit (Elt F) ℕ UU ℕ)) (sub : Fin 2) {n : Dev nD} (k : KProg F) (l : List X)

theorem firstL_spec (hb) (hc) (en : n = dst 0 c) :
    iprop(env m K ∗ ins m c ∗ stage0 c 0 sub ∗ owesE c (owe c (rs 0 sub 0 :: l)))
      ⊢ iprop(((ins m c ∗ stage1 c 0 sub ∗ owesE c (owe c l)) -∗ WP (F := F) c Q k)
        -∗ WP (F := F) c Q (firstL riM ewM ptM xbM (sbM 0) hb (cmM 0) hc cc0_scratch6 cc0_scratch7 c sub n k)) :=
  rsFirst_spec m K c Q 0 sub _ _ _ _ k l (off1_at c 0 sub) (off2_at c 0 sub) (sendL_rs 0 sub) (recvL_rs 0 sub) en

theorem firstR_spec (hb) (hc) (en : n = dst 1 c) :
    iprop(env m K ∗ ins m c ∗ stage0 c 1 sub ∗ owesE c (owe c (rs 1 sub 0 :: l)))
      ⊢ iprop(((ins m c ∗ stage1 c 1 sub ∗ owesE c (owe c l)) -∗ WP (F := F) c Q k)
        -∗ WP (F := F) c Q (firstR riM ewM ptM xbM (sbM 1) hb (cmM 1) hc cc0_scratch8 cc0_scratch9 c sub n k)) :=
  rsFirst_spec m K c Q 1 sub _ _ _ _ k l (off3_at c 0 sub) (off4_at c 0 sub) (sendR_rs 0 sub) (recvR_rs 0 sub) en

theorem nextL1_spec (hb) (hc) (en : n = dst 0 c) (hl : ∀ y ∈ rs 0 sub 1 :: l, 2 + ord (rs 0 sub 0) < 2 + ord y) :
    iprop(env m K ∗ ins m c ∗ stage1 c 0 sub ∗ owesE c (owe c (rs 0 sub 1 :: l)))
      ⊢ iprop(((ins m c ∗ stage2 m c 0 sub ∗ owesE c (owe c l)) -∗ WP (F := F) c Q k)
        -∗ WP (F := F) c Q (nextL riM ewM ptM xbM (sbM 0) hb (cmM 0) hc cc0_scratch6 cc0_scratch7 c 0 1 sub n k)) :=
  rsNext1_spec m K c Q 0 sub _ _ _ _ k l (off1_at c 1 sub) (off2_at c 1 sub) (recvL_rs 0 sub) (sendL_rs 1 sub) (recvL_rs 1 sub) en hl

theorem nextR1_spec (hb) (hc) (en : n = dst 1 c) (hl : ∀ y ∈ rs 1 sub 1 :: l, 2 + ord (rs 1 sub 0) < 2 + ord y) :
    iprop(env m K ∗ ins m c ∗ stage1 c 1 sub ∗ owesE c (owe c (rs 1 sub 1 :: l)))
      ⊢ iprop(((ins m c ∗ stage2 m c 1 sub ∗ owesE c (owe c l)) -∗ WP (F := F) c Q k)
        -∗ WP (F := F) c Q (nextR riM ewM ptM xbM (sbM 1) hb (cmM 1) hc cc0_scratch8 cc0_scratch9 c 0 1 sub n k)) :=
  rsNext1_spec m K c Q 1 sub _ _ _ _ k l (off3_at c 1 sub) (off4_at c 1 sub) (recvR_rs 0 sub) (sendR_rs 1 sub) (recvR_rs 1 sub) en hl

theorem nextL2_spec (hb) (hc) (en : n = dst 0 c) (hl : ∀ y ∈ rs 0 sub 2 :: l, 2 + ord (rs 0 sub 1) < 2 + ord y) :
    iprop(env m K ∗ ins m c ∗ stage2 m c 0 sub ∗ owesE c (owe c (rs 0 sub 2 :: l)))
      ⊢ iprop(((ins m c ∗ stage3 m c 0 sub ∗ owesE c (owe c l)) -∗ WP (F := F) c Q k)
        -∗ WP (F := F) c Q (nextL riM ewM ptM xbM (sbM 0) hb (cmM 0) hc cc0_scratch6 cc0_scratch7 c 1 2 sub n k)) :=
  rsNext2_spec m K c Q 0 sub _ _ _ _ k l (off1_at c 2 sub) (off2_at c 2 sub) (recvL_rs 1 sub) (sendL_rs 2 sub) (recvL_rs 2 sub) en hl

theorem nextR2_spec (hb) (hc) (en : n = dst 1 c) (hl : ∀ y ∈ rs 1 sub 2 :: l, 2 + ord (rs 1 sub 1) < 2 + ord y) :
    iprop(env m K ∗ ins m c ∗ stage2 m c 1 sub ∗ owesE c (owe c (rs 1 sub 2 :: l)))
      ⊢ iprop(((ins m c ∗ stage3 m c 1 sub ∗ owesE c (owe c l)) -∗ WP (F := F) c Q k)
        -∗ WP (F := F) c Q (nextR riM ewM ptM xbM (sbM 1) hb (cmM 1) hc cc0_scratch8 cc0_scratch9 c 1 2 sub n k)) :=
  rsNext2_spec m K c Q 1 sub _ _ _ _ k l (off3_at c 2 sub) (off4_at c 2 sub) (recvR_rs 1 sub) (sendR_rs 2 sub) (recvR_rs 2 sub) en hl

theorem ownL_spec (ho) (hb) (hc) (en : n = dst 0 c) (hl : ∀ y ∈ ag 0 sub 0 :: l, 2 + ord (rs 0 sub 2) < 2 + ord y) :
    iprop(env m K ∗ ins m c ∗ stage3 m c 0 sub ∗ owesE c (owe c (ag 0 sub 0 :: l)))
      ⊢ iprop(((ins m c ∗ stage4 m c 0 sub ∗ owesE c (owe c l)) -∗ WP (F := F) c Q k)
        -∗ WP (F := F) c Q (ownL riM ewM swM oM ho ptM xbM (sbM 0) hb (cmM 0) hc cc0_scratch6 cc0_scratch7 c sub n k)) :=
  agFirst_spec m K c Q 0 sub _ _ _ _ k l ho (off3_own c sub) (off4_own c sub) _ _ _ _ (off5_own c sub) (off6_own c sub)
    (recvL_rs 2 sub) (sendL_ag 0 sub) (recvL_ag 0 sub) en hl

theorem ownR_spec (ho) (hb) (hc) (en : n = dst 1 c) (hl : ∀ y ∈ ag 1 sub 0 :: l, 2 + ord (rs 1 sub 2) < 2 + ord y) :
    iprop(env m K ∗ ins m c ∗ stage3 m c 1 sub ∗ owesE c (owe c (ag 1 sub 0 :: l)))
      ⊢ iprop(((ins m c ∗ stage4 m c 1 sub ∗ owesE c (owe c l)) -∗ WP (F := F) c Q k)
        -∗ WP (F := F) c Q (ownR riM ewM swM oM ho ptM xbM (sbM 1) hb (cmM 1) hc cc0_scratch8 cc0_scratch9 c sub n k)) :=
  agFirst_spec m K c Q 1 sub _ _ _ _ k l ho (off7_own c sub) (off8_own c sub) _ _ _ _ (off9_own c sub) (off10_own c sub)
    (recvR_rs 2 sub) (sendR_ag 0 sub) (recvR_ag 0 sub) en hl

theorem gatherL1_spec (ho) (en : n = dst 0 c) (hl : ∀ y ∈ ag 0 sub 1 :: l, 2 + ord (ag 0 sub 0) < 2 + ord y) :
    iprop(env m K ∗ stage4 m c 0 sub ∗ owesE c (owe c (ag 0 sub 1 :: l)))
      ⊢ iprop(((stage5 m c 0 sub ∗ owesE c (owe c l)) -∗ WP (F := F) c Q k)
        -∗ WP (F := F) c Q (gatherL1 oM ho cc0_scratch6 cc0_scratch7 c sub n k)) :=
  agNext1_spec m K c Q 0 sub k l _ _ _ _ (off11_at c 0 sub) (recvL_ag 0 sub) (sendL_ag 1 sub) (recvL_ag 1 sub) en hl

theorem gatherR1_spec (ho) (en : n = dst 1 c) (hl : ∀ y ∈ ag 1 sub 1 :: l, 2 + ord (ag 1 sub 0) < 2 + ord y) :
    iprop(env m K ∗ stage4 m c 1 sub ∗ owesE c (owe c (ag 1 sub 1 :: l)))
      ⊢ iprop(((stage5 m c 1 sub ∗ owesE c (owe c l)) -∗ WP (F := F) c Q k)
        -∗ WP (F := F) c Q (gatherR1 oM ho cc0_scratch8 cc0_scratch9 c sub n k)) :=
  agNext1_spec m K c Q 1 sub k l _ _ _ _ (off12_at c 0 sub) (recvR_ag 0 sub) (sendR_ag 1 sub) (recvR_ag 1 sub) en hl

theorem gatherL2_spec (ho) (en : n = dst 0 c) (hl : ∀ y ∈ ag 0 sub 2 :: l, 2 + ord (ag 0 sub 1) < 2 + ord y) :
    iprop(env m K ∗ stage5 m c 0 sub ∗ owesE c (owe c (ag 0 sub 2 :: l)))
      ⊢ iprop(((stage6 m c 0 sub ∗ owesE c (owe c l)) -∗ WP (F := F) c Q k)
        -∗ WP (F := F) c Q (gatherL2 oM ho cc0_scratch6 cc0_scratch7 c sub n k)) :=
  agNext2_spec m K c Q 0 sub k l _ _ _ _ (off11_at c 1 sub) (recvL_ag 1 sub) (sendL_ag 2 sub) (recvL_ag 2 sub) en hl

theorem gatherR2_spec (ho) (en : n = dst 1 c) (hl : ∀ y ∈ ag 1 sub 2 :: l, 2 + ord (ag 1 sub 1) < 2 + ord y) :
    iprop(env m K ∗ stage5 m c 1 sub ∗ owesE c (owe c (ag 1 sub 2 :: l)))
      ⊢ iprop(((stage6 m c 1 sub ∗ owesE c (owe c l)) -∗ WP (F := F) c Q k)
        -∗ WP (F := F) c Q (gatherR2 oM ho cc0_scratch8 cc0_scratch9 c sub n k)) :=
  agNext2_spec m K c Q 1 sub k l _ _ _ _ (off12_at c 1 sub) (recvR_ag 1 sub) (sendR_ag 2 sub) (recvR_ag 2 sub) en hl

theorem lastWaits_spec (ho) :
    iprop(env m K ∗ (stage6 m c 0 sub ∗ stage6 m c 1 sub) ∗ owesE c (owe c []))
      ⊢ iprop((((stage7 m c 0 sub ∗ stage7 m c 1 sub) ∗ owesE c (owe c [])) -∗ WP (F := F) c Q k)
        -∗ WP (F := F) c Q (lastWaits oM ho cc0_scratch7 cc0_scratch9 c sub k)) := by
  unfold lastWaits
  iintro ⟨#HE, ⟨A, B⟩, HO⟩ Hk
  iapply (last_spec m K c Q 0 sub _ rfl _ _ (recvL_ag 2 sub)) $$ [A HO]
  · isplitr; · iexact HE
    isplitl [A]; · iexact A
    iexact HO
  iintro ⟨A, HO⟩
  iapply (last_spec m K c Q 1 sub _ rfl _ _ (recvR_ag 2 sub)) $$ [B HO]
  · isplitr; · iexact HE
    isplitl [B]; · iexact B
    iexact HO
  iintro ⟨B, HO⟩
  iapply Hk
  isplitr [HO]
  · isplitl [A]; · iexact A
    iexact B
  iexact HO

/-- A ring's reduce-scatter departures, both chains. -/
theorem leftSlots_spec (h : Fin 2) (A : DmaSems sig S12) (eA : ∀ s b, semAt A (stepIx s b) = sendS (rs h b s)) (hb) (hc) :
    iprop(env m K ∗ (stage7 m c h 0 ∗ stage7 m c h 1) ∗ owesE c 0)
      ⊢ iprop((((stage8 m c h 0 ∗ stage8 m c h 1) ∗ owesE c 0) -∗ WP (F := F) c Q k)
        -∗ WP (F := F) c Q (leftSlots (sbM h) (cmM h) hb hc A k)) := by
  unfold leftSlots stage7 stage8 summed
  iintro ⟨#HE, ⟨⟨⟨⟨A0, B0⟩, ⟨A1, B1⟩, ⟨A2, B2⟩⟩, A3, A4, A5, B5⟩, ⟨⟨⟨C0, D0⟩, ⟨C1, D1⟩, ⟨C2, D2⟩⟩, C3, C4, C5, D5⟩⟩, HO⟩ Hk
  unfold leftSlot
  iapply (back_spec m K c Q _ (rs h 0 0) rfl _ _ (eA 0 0)) $$ [A0 HO]
  · isplitr; · iexact HE
    isplitl [A0]; · iexact A0
    iexact HO
  iintro ⟨A0, HO⟩
  iapply (back_spec m K c Q _ (rs h 1 0) rfl _ _ (eA 0 1)) $$ [C0 HO]
  · isplitr; · iexact HE
    isplitl [C0]; · iexact C0
    iexact HO
  iintro ⟨C0, HO⟩
  iapply (back_spec m K c Q _ (rs h 0 1) rfl _ _ (eA 1 0)) $$ [A1 HO]
  · isplitr; · iexact HE
    isplitl [A1]; · iexact A1
    iexact HO
  iintro ⟨A1, HO⟩
  iapply (back_spec m K c Q _ (rs h 1 1) rfl _ _ (eA 1 1)) $$ [C1 HO]
  · isplitr; · iexact HE
    isplitl [C1]; · iexact C1
    iexact HO
  iintro ⟨C1, HO⟩
  iapply (back_spec m K c Q _ (rs h 0 2) rfl _ _ (eA 2 0)) $$ [A2 HO]
  · isplitr; · iexact HE
    isplitl [A2]; · iexact A2
    iexact HO
  iintro ⟨A2, HO⟩
  iapply (back_spec m K c Q _ (rs h 1 2) rfl _ _ (eA 2 1)) $$ [C2 HO]
  · isplitr; · iexact HE
    isplitl [C2]; · iexact C2
    iexact HO
  iintro ⟨C2, HO⟩
  iapply Hk
  isplitr [HO]
  · isplitl [A0 B0 A1 B1 A2 B2 A3 A4 A5 B5]
    · isplitl [A0 B0]; · (isplitl [A0] <;> iassumption)
      isplitl [A1 B1]; · (isplitl [A1] <;> iassumption)
      isplitl [A2 B2]; · (isplitl [A2] <;> iassumption)
      isplitl [A3]; · iexact A3
      isplitl [A4]; · iexact A4
      isplitl [A5]; · iexact A5
      iexact B5
    · isplitl [C0 D0]; · (isplitl [C0] <;> iassumption)
      isplitl [C1 D1]; · (isplitl [C1] <;> iassumption)
      isplitl [C2 D2]; · (isplitl [C2] <;> iassumption)
      isplitl [C3]; · iexact C3
      isplitl [C4]; · iexact C4
      isplitl [C5]; · iexact C5
      iexact D5
  iexact HO

/-- A ring's all-gather departures, both chains, whatever six waits they are. -/
theorem outs_spec (h : Fin 2) {s00 s01 s10 s11 s20 s21 : DmaSem sig} {M00 M01 M10 M11 M20 M21 : Memref sig .tc .vmem S256x512 .bf16}
    (e00 : s00 = sendS (ag h 0 0)) (e01 : s01 = sendS (ag h 1 0)) (e10 : s10 = sendS (ag h 0 1)) (e11 : s11 = sendS (ag h 1 1))
    (e20 : s20 = sendS (ag h 0 2)) (e21 : s21 = sendS (ag h 1 2))
    (n00 : M00.view.dmaCredit = N) (n01 : M01.view.dmaCredit = N) (n10 : M10.view.dmaCredit = N) (n11 : M11.view.dmaCredit = N)
    (n20 : M20.view.dmaCredit = N) (n21 : M21.view.dmaCredit = N) (w00) (w01) (w10) (w11) (w20) (w21) :
    iprop(env m K ∗ (stage8 m c h 0 ∗ stage8 m c h 1) ∗ owesE c 0)
      ⊢ iprop((((stage9 m c h 0 ∗ stage9 m c h 1) ∗ owesE c 0) -∗ WP (F := F) c Q k)
        -∗ WP (F := F) c Q (wait s00 M00 M00 w00 w00 <| wait s01 M01 M01 w01 w01 <| wait s10 M10 M10 w10 w10 <|
          wait s11 M11 M11 w11 w11 <| wait s20 M20 M20 w20 w20 <| wait s21 M21 M21 w21 w21 k)) := by
  unfold stage8 stage9
  iintro ⟨#HE, ⟨⟨A0, A1, A2, A3, A4, A5, B5⟩, C0, C1, C2, C3, C4, C5, D5⟩, HO⟩ Hk
  iapply (back_spec m K c Q _ (ag h 0 0) n00 _ _ e00) $$ [A3 HO]
  · isplitr; · iexact HE
    isplitl [A3]; · iexact A3
    iexact HO
  iintro ⟨A3, HO⟩
  iapply (back_spec m K c Q _ (ag h 1 0) n01 _ _ e01) $$ [C3 HO]
  · isplitr; · iexact HE
    isplitl [C3]; · iexact C3
    iexact HO
  iintro ⟨C3, HO⟩
  iapply (back_spec m K c Q _ (ag h 0 1) n10 _ _ e10) $$ [A4 HO]
  · isplitr; · iexact HE
    isplitl [A4]; · iexact A4
    iexact HO
  iintro ⟨A4, HO⟩
  iapply (back_spec m K c Q _ (ag h 1 1) n11 _ _ e11) $$ [C4 HO]
  · isplitr; · iexact HE
    isplitl [C4]; · iexact C4
    iexact HO
  iintro ⟨C4, HO⟩
  iapply (back_spec m K c Q _ (ag h 0 2) n20 _ _ e20) $$ [A5 HO]
  · isplitr; · iexact HE
    isplitl [A5]; · iexact A5
    iexact HO
  iintro ⟨A5, HO⟩
  iapply (back_spec m K c Q _ (ag h 1 2) n21 _ _ e21) $$ [C5 HO]
  · isplitr; · iexact HE
    isplitl [C5]; · iexact C5
    iexact HO
  iintro ⟨C5, HO⟩
  iapply Hk
  isplitr [HO]
  · isplitl [A0 A1 A2 A3 A4 A5 B5]
    · isplitl [A0]; · iexact A0
      isplitl [A1]; · iexact A1
      isplitl [A2]; · iexact A2
      isplitl [A3]; · iexact A3
      isplitl [A4]; · iexact A4
      isplitl [A5]; · iexact A5
      iexact B5
    · isplitl [C0]; · iexact C0
      isplitl [C1]; · iexact C1
      isplitl [C2]; · iexact C2
      isplitl [C3]; · iexact C3
      isplitl [C4]; · iexact C4
      isplitl [C5]; · iexact C5
      iexact D5
  iexact HO

theorem leftOutsL_spec (ho) :
    iprop(env m K ∗ (stage8 m c 0 0 ∗ stage8 m c 0 1) ∗ owesE c 0)
      ⊢ iprop((((stage9 m c 0 0 ∗ stage9 m c 0 1) ∗ owesE c 0) -∗ WP (F := F) c Q k)
        -∗ WP (F := F) c Q (leftOutsL oM ho cc0_scratch6 c k)) :=
  outs_spec m K c Q k 0 (sendL_ag 0 0) (sendL_ag 0 1) (sendL_ag 1 0) (sendL_ag 1 1) (sendL_ag 2 0) (sendL_ag 2 1) rfl rfl rfl rfl rfl rfl _ _ _ _ _ _

theorem leftOutsR_spec (ho) :
    iprop(env m K ∗ (stage8 m c 1 0 ∗ stage8 m c 1 1) ∗ owesE c 0)
      ⊢ iprop((((stage9 m c 1 0 ∗ stage9 m c 1 1) ∗ owesE c 0) -∗ WP (F := F) c Q k)
        -∗ WP (F := F) c Q (leftOutsR oM ho cc0_scratch8 c k)) :=
  outs_spec m K c Q k 1 (sendR_ag 0 0) (sendR_ag 0 1) (sendR_ag 1 0) (sendR_ag 1 1) (sendR_ag 2 0) (sendR_ag 2 1) rfl rfl rfl rfl rfl rfl _ _ _ _ _ _

end Cert.KernelIdeal.Run

end
-- ==== Proof.Body.lean ====
/-
# The kernel body on one device

From the staged inputs, the scratch memory and the rights of its copies to every block of the result in place and every
semaphore counted down.
-/
module

public import proofs.«01_k».proof.Proof.Rings

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ) (c : Dev nD)
  (Q : PUnit.{1} → sProp (MT nD τ sig Unit (Elt F) ℕ UU ℕ))

/-! ## The start -/

/-- The two inputs the start alone reads. -/
def early (c : Dev nD) : sProp 𝕄 :=
  iprop((xM.view.loc (c : Thread nD τ) ↦[Finset.univ]{fullShare} vx m c) ∗ (rwM.view.loc (c : Thread nD τ) ↦[Finset.univ]{fullShare} vrw m c))

/-- What the start needs of the barrier: the rights to both neighbours' counters, the blocks lent to each, its own counter's claim. -/
def barTodo (c : Dev nD) : sProp 𝕄 :=
  iprop((dutyTok ER (barCell (src 0 c)) 0 (0 : D) ∗ dutyTok ER (barCell (src 1 c)) 0 (1 : D))
    ∗ (barPay 0 (src 0 c) ∗ barPay 1 (src 1 c)) ∗ cred (tallyAt (barCell c) () 2) ∗ atPos ER (barCell c) 0 ∅ 0)

omit [FloatOps F] in
theorem hz : (![0, 0] : Fin 2 → ℕ) = fun _ => 0 := by funext a; fin_cases a <;> rfl

theorem start_spec (h6) (h7) (k : KProg F) :
    iprop(env m K ∗ barTodo c ∗ early m c
        ∗ ((∃ f, xbM.view.loc (c : Thread nD τ) ↦[Finset.univ]{fullShare} f) ∗ (riM.view.loc (c : Thread nD τ) ↦[Finset.univ]{fullShare} vri m c)
          ∗ (∃ f, ptM.view.loc (c : Thread nD τ) ↦[Finset.univ]{fullShare} f) ∗ (ewM.view.loc (c : Thread nD τ) ↦[Finset.univ]{fullShare} vew m c)
          ∗ (swM.view.loc (c : Thread nD τ) ↦[Finset.univ]{fullShare} vsw m c))
        ∗ owesE c (O₀ c))
      ⊢ iprop(((early m c ∗ ins m c ∗ (barPay 0 c ∗ barPay 1 c) ∗ semVal (barCell c) 0 ∗ owesE c (owe c order)) -∗ WP (F := F) c Q k)
        -∗ WP (F := F) c Q (start xM rwM riM ptM h6 xbM h7 c k)) := by
  have d1 : (⟨k0_dev1 c, Gen.k0_dev1_lt c⟩ : Dev nD) = src 0 c := by revert c; decide +kernel
  have d2 : (⟨k0_dev2 c, Gen.k0_dev2_lt c⟩ : Dev nD) = src 1 c := by revert c; decide +kernel
  unfold start barTodo owesE early ins
  simp only [semSignalWord, semWaitWord, Prog.bind_op, Prog.bind_ret, d1, d2]
  iintro ⟨#HE, ⟨⟨Ht0, Ht1⟩, ⟨HP0, HP1⟩, HcB, HaB⟩, ⟨Hx, Hr⟩, ⟨⟨%fb, Hb⟩, Hi, ⟨%fp, Hp⟩, Hw, Hs⟩, ⟨%W, HO⟩⟩ Hk
  iapply (Rounds.wp_signal 𝒱₀ ER (Rd m) (c : Thread nD τ) none (dst := (src 0 c : Thread nD τ)) (κ := K (src 0 c, none))
      (d := (0 : D)) (by rw [duties_bar]; exact Finset.mem_univ _) ((amount_bar m (src 0 c) 0).trans (by decide)) () (O₁ c) rfl)
    $$ [HO Ht0 HP0]
  · isplitr; · iapply (env_inv m K (src 0 c, none)); iexact HE
    isplitl [HO]; · iexact HO
    isplitl [Ht0]; · iexact Ht0
    isplitl [HP0]; · rw [payload_bar]; iexact HP0
    iapply (env_reached m K (src 0 c, none)); iexact HE
  iintro HO
  unfold O₁
  iapply (Rounds.wp_signal 𝒱₀ ER (Rd m) (c : Thread nD τ) none (dst := (src 1 c : Thread nD τ)) (κ := K (src 1 c, none))
      (d := (1 : D)) (by rw [duties_bar]; exact Finset.mem_univ _) ((amount_bar m (src 1 c) 1).trans (by decide)) () (owe c order) rfl)
    $$ [HO Ht1 HP1]
  · isplitr; · iapply (env_inv m K (src 1 c, none)); iexact HE
    isplitl [HO]; · iexact HO
    isplitl [Ht1]; · iexact Ht1
    isplitl [HP1]; · rw [payload_bar]; iexact HP1
    iapply (env_reached m K (src 1 c, none)); iexact HE
  iintro HO
  iapply (Rounds.wp_wait_rest_token 𝒱₀ ER (Rd m) (c : Thread nD τ) none (κ := K (c, none))
      (wpE_semWait_eq 𝒱₀ (c : Thread nD τ) none Set.univ) (Set.mem_univ _) () (O := owe c order) (W := W) (R := 0) (m := 0) (T := ∅)
      (by rw [expect_bar]; decide)) $$ [HcB HO HaB]
  · isplitr; · iapply (env_inv m K (c, none)); iexact HE
    isplitl [HcB]; · iexact HcB
    isplitl [HO]; · iexact HO
    isplitr; · iapply (mayWait_owe c _ order 1 (le_of_eq (lv_bar c ())) (fun x _ => by omega)); iapply (env_lev m K); iexact HE
    iexact HaB
  iintro ⟨HO, HaB, -, Hpay⟩
  ihave Hpay := (Entails.of_eq (rest_bar m c)) $$ Hpay
  imod (Rounds.cell_close ER (Rd m) (g := barCell c) (κ := K (c, none)) (Set.mem_univ _) (fun h => h) (R := 0 + 1) (duties_later m _)) $$ [HaB] with Hv
  · isplitr; · iapply (env_inv m K (c, none)); iexact HE
    iexact HaB
  iapply (wp_load 𝒱₀ (c : Thread nD τ) none Set.univ (m := xM) (S := Finset.univ) (Finset.subset_univ _)) $$ Hx; iintro Hx
  rw [show xM.view.readAt (Elt F) (Rect.unit (s := S2048x512) ![0, 0] S2048x512.size Gen.inb_S2048x512_S2048x512_0_0).toLoadRect (vx m c) = vx m c from
    Memref.readAt_unit_zero (Elt F) cc0_stg0_0 hz _ _]
  iapply (wp_load 𝒱₀ (c : Thread nD τ) none Set.univ (m := xbM) (S := Finset.univ) (Finset.subset_univ _)) $$ Hb; iintro Hb
  iapply (wp_store 𝒱₀ (c : Thread nD τ) none Set.univ (m := xbM) (r := Rect.unit (s := S2048x512) ![0, 0] S2048x512.size Gen.inb_S2048x512_S2048x512_0_0)
    (Mk := Finset.univ) (S := Finset.univ) (Finset.subset_univ _)) $$ Hb; iintro Hb
  rw [show (xbM.access (Rect.unit (s := S2048x512) ![0, 0] S2048x512.size Gen.inb_S2048x512_S2048x512_0_0)).write (Elt F) fb (k0_pay1 (vx m c)) Finset.univ = vxb m c from
    Memref.write_access_unit_zero_univ (Elt F) cc0_scratch1 hz _ _ _]
  iapply (wp_load 𝒱₀ (c : Thread nD τ) none Set.univ (m := xbM) (S := Finset.univ) (Finset.subset_univ _)) $$ Hb; iintro Hb
  rw [show xbM.view.readAt (Elt F) (Rect.unit (s := S2048x512) ![0, 0] S2048x512.size Gen.inb_S2048x512_S2048x512_0_0).toLoadRect (vxb m c) = vxb m c from
    Memref.readAt_unit_zero (Elt F) cc0_scratch1 hz _ _]
  iapply (wp_load 𝒱₀ (c : Thread nD τ) none Set.univ (m := rwM) (S := Finset.univ) (Finset.subset_univ _)) $$ Hr; iintro Hr
  rw [show rwM.view.readAt (Elt F) (Rect.unit (s := S512x32) ![0, 0] S512x32.size Gen.inb_S512x32_S512x32_0_0).toLoadRect (vrw m c) = vrw m c from
    Memref.readAt_unit_zero (Elt F) cc0_stg1_0 hz _ _]
  iapply (wp_load 𝒱₀ (c : Thread nD τ) none Set.univ (m := riM) (S := Finset.univ) (Finset.subset_univ _)) $$ Hi; iintro Hi
  rw [show riM.view.readAt (Elt F) (Rect.unit (s := S2048x1) ![0, 0] S2048x1.size Gen.inb_S2048x1_S2048x1_0_0).toLoadRect (vri m c) = vri m c from
    Memref.readAt_unit_zero (Elt F) cc0_stg2_0 hz _ _]
  iapply (wp_load 𝒱₀ (c : Thread nD τ) none Set.univ (m := ptM) (S := Finset.univ) (Finset.subset_univ _)) $$ Hp; iintro Hp
  iapply (wp_store 𝒱₀ (c : Thread nD τ) none Set.univ (m := ptM) (r := Rect.unit (s := S2048x1) ![0, 0] S2048x1.size Gen.inb_S2048x1_S2048x1_0_0)
    (Mk := Finset.univ) (S := Finset.univ) (Finset.subset_univ _)) $$ Hp; iintro Hp
  rw [show (ptM.access (Rect.unit (s := S2048x1) ![0, 0] S2048x1.size Gen.inb_S2048x1_S2048x1_0_0)).write (Elt F) fp
      (k0_pay4 (k0_pay2 (vxb m c) (vrw m c)) (k0_pay3 (vxb m c) (vrw m c)) (vri m c)) Finset.univ = vpt m c from
    Memref.write_access_unit_zero_univ (Elt F) cc0_scratch0 hz _ _ _]
  iapply Hk
  isplitl [Hx Hr]
  · isplitl [Hx] <;> iassumption
  isplitl [Hb Hi Hp Hw Hs]
  · isplitl [Hb]; · iexact Hb
    isplitl [Hi]; · iexact Hi
    isplitl [Hp]; · iexact Hp
    isplitl [Hw]; · iexact Hw
    iexact Hs
  isplitl [Hpay]; · iexact Hpay
  isplitl [Hv]; · iexact Hv
  iexists _; iexact HO

/-! ## The body after the start -/

/-- The blocks lent by the neighbours, sorted into the chains. -/
def ready (c : Dev nD) (h sub : Fin 2) : sProp 𝕄 :=
  iprop(slotAny c h sub 0 ∗ slotAny c h sub 1 ∗ slotAny c h sub 2 ∗ ownAny c h sub)

/-- The phases after the start. -/
def rest (h5 : oM.IsWhole) (s0 : (sbM 0).IsWhole) (s1 : (sbM 1).IsWhole) (r0 : (cmM 0).IsWhole) (r1 : (cmM 1).IsWhole) (d : Dev nD) (k : KProg F) : KProg F :=
  firstL riM ewM ptM xbM (sbM 0) s0 (cmM 0) r0 cc0_scratch6 cc0_scratch7 d 0 ⟨k0_dev3 d, Gen.k0_dev3_lt d⟩ <|
  firstR riM ewM ptM xbM (sbM 1) s1 (cmM 1) r1 cc0_scratch8 cc0_scratch9 d 0 ⟨k0_dev4 d, Gen.k0_dev4_lt d⟩ <|
  firstL riM ewM ptM xbM (sbM 0) s0 (cmM 0) r0 cc0_scratch6 cc0_scratch7 d 1 ⟨k0_dev5 d, Gen.k0_dev5_lt d⟩ <|
  firstR riM ewM ptM xbM (sbM 1) s1 (cmM 1) r1 cc0_scratch8 cc0_scratch9 d 1 ⟨k0_dev6 d, Gen.k0_dev6_lt d⟩ <|
  nextL riM ewM ptM xbM (sbM 0) s0 (cmM 0) r0 cc0_scratch6 cc0_scratch7 d 0 1 0 ⟨k0_dev7 d, Gen.k0_dev7_lt d⟩ <|
  nextR riM ewM ptM xbM (sbM 1) s1 (cmM 1) r1 cc0_scratch8 cc0_scratch9 d 0 1 0 ⟨k0_dev8 d, Gen.k0_dev8_lt d⟩ <|
  nextL riM ewM ptM xbM (sbM 0) s0 (cmM 0) r0 cc0_scratch6 cc0_scratch7 d 0 1 1 ⟨k0_dev9 d, Gen.k0_dev9_lt d⟩ <|
  nextR riM ewM ptM xbM (sbM 1) s1 (cmM 1) r1 cc0_scratch8 cc0_scratch9 d 0 1 1 ⟨k0_dev10 d, Gen.k0_dev10_lt d⟩ <|
  nextL riM ewM ptM xbM (sbM 0) s0 (cmM 0) r0 cc0_scratch6 cc0_scratch7 d 1 2 0 ⟨k0_dev11 d, Gen.k0_dev11_lt d⟩ <|
  nextR riM ewM ptM xbM (sbM 1) s1 (cmM 1) r1 cc0_scratch8 cc0_scratch9 d 1 2 0 ⟨k0_dev12 d, Gen.k0_dev12_lt d⟩ <|
  nextL riM ewM ptM xbM (sbM 0) s0 (cmM 0) r0 cc0_scratch6 cc0_scratch7 d 1 2 1 ⟨k0_dev13 d, Gen.k0_dev13_lt d⟩ <|
  nextR riM ewM ptM xbM (sbM 1) s1 (cmM 1) r1 cc0_scratch8 cc0_scratch9 d 1 2 1 ⟨k0_dev14 d, Gen.k0_dev14_lt d⟩ <|
  ownL riM ewM swM oM h5 ptM xbM (sbM 0) s0 (cmM 0) r0 cc0_scratch6 cc0_scratch7 d 0 ⟨k0_dev15 d, Gen.k0_dev15_lt d⟩ <|
  ownR riM ewM swM oM h5 ptM xbM (sbM 1) s1 (cmM 1) r1 cc0_scratch8 cc0_scratch9 d 0 ⟨k0_dev16 d, Gen.k0_dev16_lt d⟩ <|
  ownL riM ewM swM oM h5 ptM xbM (sbM 0) s0 (cmM 0) r0 cc0_scratch6 cc0_scratch7 d 1 ⟨k0_dev17 d, Gen.k0_dev17_lt d⟩ <|
  ownR riM ewM swM oM h5 ptM xbM (sbM 1) s1 (cmM 1) r1 cc0_scratch8 cc0_scratch9 d 1 ⟨k0_dev18 d, Gen.k0_dev18_lt d⟩ <|
  gatherL1 oM h5 cc0_scratch6 cc0_scratch7 d 0 ⟨k0_dev19 d, Gen.k0_dev19_lt d⟩ <|
  gatherR1 oM h5 cc0_scratch8 cc0_scratch9 d 0 ⟨k0_dev20 d, Gen.k0_dev20_lt d⟩ <|
  gatherL1 oM h5 cc0_scratch6 cc0_scratch7 d 1 ⟨k0_dev21 d, Gen.k0_dev21_lt d⟩ <|
  gatherR1 oM h5 cc0_scratch8 cc0_scratch9 d 1 ⟨k0_dev22 d, Gen.k0_dev22_lt d⟩ <|
  gatherL2 oM h5 cc0_scratch6 cc0_scratch7 d 0 ⟨k0_dev23 d, Gen.k0_dev23_lt d⟩ <|
  gatherR2 oM h5 cc0_scratch8 cc0_scratch9 d 0 ⟨k0_dev24 d, Gen.k0_dev24_lt d⟩ <|
  gatherL2 oM h5 cc0_scratch6 cc0_scratch7 d 1 ⟨k0_dev25 d, Gen.k0_dev25_lt d⟩ <|
  gatherR2 oM h5 cc0_scratch8 cc0_scratch9 d 1 ⟨k0_dev26 d, Gen.k0_dev26_lt d⟩ <|
  lastWaits oM h5 cc0_scratch7 cc0_scratch9 d 0 <| lastWaits oM h5 cc0_scratch7 cc0_scratch9 d 1 <|
  leftSlots (sbM 0) (cmM 0) s0 r0 cc0_scratch6 <| leftSlots (sbM 1) (cmM 1) s1 r1 cc0_scratch8 <|
  leftOutsL oM h5 cc0_scratch6 d <| leftOutsR oM h5 cc0_scratch8 d k

/-- Of the copies still to start, each later one's arrival is above an awaited arrival. -/
theorem later (x : X) (l : List X) (hl : (l.all fun y => decide (ord x < ord y)) = true) : ∀ y ∈ l, 2 + ord x < 2 + ord y := by
  intro y hy
  have := List.all_eq_true.mp hl y hy
  have := of_decide_eq_true this
  omega

set_option maxHeartbeats 4000000 in
/-- All four chains through all nine stages. -/
theorem rest_spec (h5) (s0) (s1) (r0) (r1) (k : KProg F) :
    iprop(env m K ∗ ins m c ∗ (stage0 c 0 0 ∗ stage0 c 0 1 ∗ stage0 c 1 0 ∗ stage0 c 1 1) ∗ owesE c (owe c order))
      ⊢ iprop(((ins m c ∗ (stage9 m c 0 0 ∗ stage9 m c 0 1 ∗ stage9 m c 1 0 ∗ stage9 m c 1 1) ∗ owesE c 0) -∗ WP (F := F) c Q k)
        -∗ WP (F := F) c Q (rest h5 s0 s1 r0 r1 c k)) := by
  unfold rest
  iintro ⟨#HE, HI, ⟨A0, A1, B0, B1⟩, HO⟩ Hk
  iapply (firstL_spec m K c Q 0 _ (order.drop 1) _ _ (by revert c; decide +kernel)) $$ [HI A0 HO]
  · isplitr; · iexact HE
    isplitl [HI]; · iexact HI
    isplitl [A0]; · iexact A0
    iexact HO
  iintro ⟨HI, A0, HO⟩
  iapply (firstR_spec m K c Q 0 _ (order.drop 2) _ _ (by revert c; decide +kernel)) $$ [HI B0 HO]
  · isplitr; · iexact HE
    isplitl [HI]; · iexact HI
    isplitl [B0]; · iexact B0
    iexact HO
  iintro ⟨HI, B0, HO⟩
  iapply (firstL_spec m K c Q 1 _ (order.drop 3) _ _ (by revert c; decide +kernel)) $$ [HI A1 HO]
  · isplitr; · iexact HE
    isplitl [HI]; · iexact HI
    isplitl [A1]; · iexact A1
    iexact HO
  iintro ⟨HI, A1, HO⟩
  iapply (firstR_spec m K c Q 1 _ (order.drop 4) _ _ (by revert c; decide +kernel)) $$ [HI B1 HO]
  · isplitr; · iexact HE
    isplitl [HI]; · iexact HI
    isplitl [B1]; · iexact B1
    iexact HO
  iintro ⟨HI, B1, HO⟩
  iapply (nextL1_spec m K c Q 0 _ (order.drop 5) _ _ (by revert c; decide +kernel) (later _ _ (by decide))) $$ [HI A0 HO]
  · isplitr; · iexact HE
    isplitl [HI]; · iexact HI
    isplitl [A0]; · iexact A0
    iexact HO
  iintro ⟨HI, A0, HO⟩
  iapply (nextR1_spec m K c Q 0 _ (order.drop 6) _ _ (by revert c; decide +kernel) (later _ _ (by decide))) $$ [HI B0 HO]
  · isplitr; · iexact HE
    isplitl [HI]; · iexact HI
    isplitl [B0]; · iexact B0
    iexact HO
  iintro ⟨HI, B0, HO⟩
  iapply (nextL1_spec m K c Q 1 _ (order.drop 7) _ _ (by revert c; decide +kernel) (later _ _ (by decide))) $$ [HI A1 HO]
  · isplitr; · iexact HE
    isplitl [HI]; · iexact HI
    isplitl [A1]; · iexact A1
    iexact HO
  iintro ⟨HI, A1, HO⟩
  iapply (nextR1_spec m K c Q 1 _ (order.drop 8) _ _ (by revert c; decide +kernel) (later _ _ (by decide))) $$ [HI B1 HO]
  · isplitr; · iexact HE
    isplitl [HI]; · iexact HI
    isplitl [B1]; · iexact B1
    iexact HO
  iintro ⟨HI, B1, HO⟩
  iapply (nextL2_spec m K c Q 0 _ (order.drop 9) _ _ (by revert c; decide +kernel) (later _ _ (by decide))) $$ [HI A0 HO]
  · isplitr; · iexact HE
    isplitl [HI]; · iexact HI
    isplitl [A0]; · iexact A0
    iexact HO
  iintro ⟨HI, A0, HO⟩
  iapply (nextR2_spec m K c Q 0 _ (order.drop 10) _ _ (by revert c; decide +kernel) (later _ _ (by decide))) $$ [HI B0 HO]
  · isplitr; · iexact HE
    isplitl [HI]; · iexact HI
    isplitl [B0]; · iexact B0
    iexact HO
  iintro ⟨HI, B0, HO⟩
  iapply (nextL2_spec m K c Q 1 _ (order.drop 11) _ _ (by revert c; decide +kernel) (later _ _ (by decide))) $$ [HI A1 HO]
  · isplitr; · iexact HE
    isplitl [HI]; · iexact HI
    isplitl [A1]; · iexact A1
    iexact HO
  iintro ⟨HI, A1, HO⟩
  iapply (nextR2_spec m K c Q 1 _ (order.drop 12) _ _ (by revert c; decide +kernel) (later _ _ (by decide))) $$ [HI B1 HO]
  · isplitr; · iexact HE
    isplitl [HI]; · iexact HI
    isplitl [B1]; · iexact B1
    iexact HO
  iintro ⟨HI, B1, HO⟩
  iapply (ownL_spec m K c Q 0 _ (order.drop 13) _ _ _ (by revert c; decide +kernel) (later _ _ (by decide))) $$ [HI A0 HO]
  · isplitr; · iexact HE
    isplitl [HI]; · iexact HI
    isplitl [A0]; · iexact A0
    iexact HO
  iintro ⟨HI, A0, HO⟩
  iapply (ownR_spec m K c Q 0 _ (order.drop 14) _ _ _ (by revert c; decide +kernel) (later _ _ (by decide))) $$ [HI B0 HO]
  · isplitr; · iexact HE
    isplitl [HI]; · iexact HI
    isplitl [B0]; · iexact B0
    iexact HO
  iintro ⟨HI, B0, HO⟩
  iapply (ownL_spec m K c Q 1 _ (order.drop 15) _ _ _ (by revert c; decide +kernel) (later _ _ (by decide))) $$ [HI A1 HO]
  · isplitr; · iexact HE
    isplitl [HI]; · iexact HI
    isplitl [A1]; · iexact A1
    iexact HO
  iintro ⟨HI, A1, HO⟩
  iapply (ownR_spec m K c Q 1 _ (order.drop 16) _ _ _ (by revert c; decide +kernel) (later _ _ (by decide))) $$ [HI B1 HO]
  · isplitr; · iexact HE
    isplitl [HI]; · iexact HI
    isplitl [B1]; · iexact B1
    iexact HO
  iintro ⟨HI, B1, HO⟩
  iapply (gatherL1_spec m K c Q 0 _ (order.drop 17) _ (by revert c; decide +kernel) (later _ _ (by decide))) $$ [A0 HO]
  · isplitr; · iexact HE
    isplitl [A0]; · iexact A0
    iexact HO
  iintro ⟨A0, HO⟩
  iapply (gatherR1_spec m K c Q 0 _ (order.drop 18) _ (by revert c; decide +kernel) (later _ _ (by decide))) $$ [B0 HO]
  · isplitr; · iexact HE
    isplitl [B0]; · iexact B0
    iexact HO
  iintro ⟨B0, HO⟩
  iapply (gatherL1_spec m K c Q 1 _ (order.drop 19) _ (by revert c; decide +kernel) (later _ _ (by decide))) $$ [A1 HO]
  · isplitr; · iexact HE
    isplitl [A1]; · iexact A1
    iexact HO
  iintro ⟨A1, HO⟩
  iapply (gatherR1_spec m K c Q 1 _ (order.drop 20) _ (by revert c; decide +kernel) (later _ _ (by decide))) $$ [B1 HO]
  · isplitr; · iexact HE
    isplitl [B1]; · iexact B1
    iexact HO
  iintro ⟨B1, HO⟩
  iapply (gatherL2_spec m K c Q 0 _ (order.drop 21) _ (by revert c; decide +kernel) (later _ _ (by decide))) $$ [A0 HO]
  · isplitr; · iexact HE
    isplitl [A0]; · iexact A0
    iexact HO
  iintro ⟨A0, HO⟩
  iapply (gatherR2_spec m K c Q 0 _ (order.drop 22) _ (by revert c; decide +kernel) (later _ _ (by decide))) $$ [B0 HO]
  · isplitr; · iexact HE
    isplitl [B0]; · iexact B0
    iexact HO
  iintro ⟨B0, HO⟩
  iapply (gatherL2_spec m K c Q 1 _ (order.drop 23) _ (by revert c; decide +kernel) (later _ _ (by decide))) $$ [A1 HO]
  · isplitr; · iexact HE
    isplitl [A1]; · iexact A1
    iexact HO
  iintro ⟨A1, HO⟩
  iapply (gatherR2_spec m K c Q 1 _ (order.drop 24) _ (by revert c; decide +kernel) (later _ _ (by decide))) $$ [B1 HO]
  · isplitr; · iexact HE
    isplitl [B1]; · iexact B1
    iexact HO
  iintro ⟨B1, HO⟩
  iapply (lastWaits_spec m K c Q 0 _ _) $$ [A0 B0 HO]
  · isplitr; · iexact HE
    isplitr [HO]; · (isplitl [A0] <;> iassumption)
    iexact HO
  iintro ⟨⟨A0, B0⟩, HO⟩
  iapply (lastWaits_spec m K c Q 1 _ _) $$ [A1 B1 HO]
  · isplitr; · iexact HE
    isplitr [HO]; · (isplitl [A1] <;> iassumption)
    iexact HO
  iintro ⟨⟨A1, B1⟩, HO⟩
  iapply (leftSlots_spec m K c Q _ 0 cc0_scratch6 sendL_rs _ _) $$ [A0 A1 HO]
  · isplitr; · iexact HE
    isplitr [HO]; · (isplitl [A0] <;> iassumption)
    iexact HO
  iintro ⟨⟨A0, A1⟩, HO⟩
  iapply (leftSlots_spec m K c Q _ 1 cc0_scratch8 sendR_rs _ _) $$ [B0 B1 HO]
  · isplitr; · iexact HE
    isplitr [HO]; · (isplitl [B0] <;> iassumption)
    iexact HO
  iintro ⟨⟨B0, B1⟩, HO⟩
  iapply (leftOutsL_spec m K c Q _ _) $$ [A0 A1 HO]
  · isplitr; · iexact HE
    isplitr [HO]; · (isplitl [A0] <;> iassumption)
    iexact HO
  iintro ⟨⟨A0, A1⟩, HO⟩
  iapply (leftOutsR_spec m K c Q _ _) $$ [B0 B1 HO]
  · isplitr; · iexact HE
    isplitr [HO]; · (isplitl [B0] <;> iassumption)
    iexact HO
  iintro ⟨⟨B0, B1⟩, HO⟩
  iapply Hk
  isplitl [HI]; · iexact HI
  isplitr [HO]
  · isplitl [A0]; · iexact A0
    isplitl [A1]; · iexact A1
    isplitl [B0]; · iexact B0
    iexact B1
  iexact HO

end Cert.KernelIdeal.Run

end
-- ==== Proof.Memory.lean ====
/-
# The memory in blocks

The slots and the result buffer, held whole, are their blocks; the blocks, once finished, are the result.
-/
module

public import proofs.«01_k».proof.Proof.Body
public import Idealize.ShloMosaic.Lib.Ring
public import Idealize.ShloMosaic.Lib.ViewIndex

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (c : Dev nD)

/-! ## The slots -/

/-- The elements of slot `y.1`, half `y.2`. -/
def slotI (y : Fin 3 × Fin 2) : Finset S3x512x512.Idx := (slotRect y.1 y.2).set

theorem mem_slotI (y : Fin 3 × Fin 2) (i : S3x512x512.Idx) : i ∈ slotI y ↔ (i 0).val = y.1.val ∧ (i 1).val / 256 = y.2.val := by
  unfold slotI
  rw [Rect.mem_set_unit]
  have h1 := (i 1).isLt
  have h2 := (i 2).isLt
  change (i 1).val < 512 at h1
  change (i 2).val < 512 at h2
  constructor
  · intro h
    have a0 := h 0
    have a1 := h 1
    change y.1.val ≤ (i 0).val ∧ (i 0).val < y.1.val + 1 at a0
    change 256 * y.2.val ≤ (i 1).val ∧ (i 1).val < 256 * y.2.val + 256 at a1
    omega
  · rintro ⟨e0, e1⟩ a
    match a with
    | 0 => change y.1.val ≤ (i 0).val ∧ (i 0).val < y.1.val + 1; omega
    | 1 => change 256 * y.2.val ≤ (i 1).val ∧ (i 1).val < 256 * y.2.val + 256; omega
    | 2 => change 0 ≤ (i 2).val ∧ (i 2).val < 0 + 512; omega

theorem slotI_disjoint : ∀ y y', y ≠ y' → Disjoint (slotI y) (slotI y') := by
  intro y y' hn
  rw [Finset.disjoint_left]
  intro i hi hi'
  rw [mem_slotI] at hi hi'
  exact hn (Prod.ext (Fin.ext (by omega)) (Fin.ext (by omega)))

theorem slotI_cover : Finset.univ.biUnion slotI = Finset.univ := by
  ext i
  have h0 := (i 0).isLt
  have h1 := (i 1).isLt
  change (i 0).val < 3 at h0
  change (i 1).val < 512 at h1
  simp only [Finset.mem_biUnion, Finset.mem_univ, true_and, iff_true]
  exact ⟨(⟨(i 0).val, h0⟩, ⟨(i 1).val / 256, by omega⟩), (mem_slotI _ _).mpr ⟨rfl, rfl⟩⟩

/-- The slot buffers: the outgoing and the incoming of each ring. -/
def slotM (p h : Fin 2) : Memref sig .tc .vmem S3x512x512 .bf16 :=
  match p with
  | 0 => sbM h
  | 1 => cmM h

/-- The elements of a slot buffer's slot. -/
def slotSet (p h : Fin 2) (y : Fin 3 × Fin 2) : Finset (Idx ((slotM p h).view.loc (c : Thread nD τ))) :=
  match p, h with
  | 0, 0 => slotI y
  | 0, 1 => slotI y
  | 1, 0 => slotI y
  | 1, 1 => slotI y

theorem slotSet_disjoint (p h : Fin 2) : ∀ y y', y ≠ y' → Disjoint (slotSet c p h y) (slotSet c p h y') := by
  match p, h with
  | 0, 0 => exact slotI_disjoint
  | 0, 1 => exact slotI_disjoint
  | 1, 0 => exact slotI_disjoint
  | 1, 1 => exact slotI_disjoint

theorem slotSet_cover (p h : Fin 2) : Finset.univ.biUnion (slotSet c p h) = Finset.univ := by
  match p, h with
  | 0, 0 => exact slotI_cover
  | 0, 1 => exact slotI_cover
  | 1, 0 => exact slotI_cover
  | 1, 1 => exact slotI_cover

omit [FloatOps F] in
theorem slotM_out (h : Fin 2) : slotM 0 h = sbM h := rfl
omit [FloatOps F] in
theorem slotM_inn (h : Fin 2) : slotM 1 h = cmM h := rfl

theorem slots_any (p h : Fin 2) (y : Fin 3 × Fin 2) : (any c (slotRef (slotM p h) y.1 y.2) : sProp 𝕄)
    = iprop(∃ f, (slotM p h).view.loc (c : Thread nD τ) ↦[slotSet c p h y]{fullShare} f) := by
  match p, h with
  | 0, 0 => exact congrArg (fun S => iprop(∃ f, (c : Thread nD τ).loc cc0_scratch2 ↦[S]{fullShare} f)) ((View.set_reshape _ _).trans (View.set_slice_whole cc0_scratch2 _))
  | 0, 1 => exact congrArg (fun S => iprop(∃ f, (c : Thread nD τ).loc cc0_scratch3 ↦[S]{fullShare} f)) ((View.set_reshape _ _).trans (View.set_slice_whole cc0_scratch3 _))
  | 1, 0 => exact congrArg (fun S => iprop(∃ f, (c : Thread nD τ).loc cc0_scratch4 ↦[S]{fullShare} f)) ((View.set_reshape _ _).trans (View.set_slice_whole cc0_scratch4 _))
  | 1, 1 => exact congrArg (fun S => iprop(∃ f, (c : Thread nD τ).loc cc0_scratch5 ↦[S]{fullShare} f)) ((View.set_reshape _ _).trans (View.set_slice_whole cc0_scratch5 _))

theorem slots_split (p h : Fin 2) : iprop(∃ f, (slotM p h).view.loc (c : Thread nD τ) ↦[Finset.univ]{fullShare} f)
    ⊢ (bigSep Finset.univ fun y : Fin 3 × Fin 2 => (any c (slotRef (slotM p h) y.1 y.2) : sProp 𝕄)) := by
  rw [bigSep_congr fun y _ => slots_any c p h y]
  iintro ⟨%f, H⟩
  ihave H := (Entails.of_eq (pointsTo_blocks (slotSet c p h) (slotSet_disjoint c p h) (slotSet_cover c p h) f)) $$ H
  have e : (bigSep Finset.univ fun y => iprop((slotM p h).view.loc (c : Thread nD τ) ↦[slotSet c p h y]{fullShare} f) : sProp 𝕄)
      ⊢ bigSep Finset.univ fun y => iprop(∃ f, (slotM p h).view.loc (c : Thread nD τ) ↦[slotSet c p h y]{fullShare} f) :=
    bigSep_mono fun y _ => by
      have e : iprop((slotM p h).view.loc (c : Thread nD τ) ↦[slotSet c p h y]{fullShare} f)
          ⊢ (iprop(∃ f, (slotM p h).view.loc (c : Thread nD τ) ↦[slotSet c p h y]{fullShare} f) : sProp 𝕄) := by
        iintro H; iexists f; iexact H
      exact e
  iapply e; iexact H

theorem slots_join (p h : Fin 2) : (bigSep Finset.univ fun y : Fin 3 × Fin 2 => (any c (slotRef (slotM p h) y.1 y.2) : sProp 𝕄))
    ⊢ iprop(∃ f, (slotM p h).view.loc (c : Thread nD τ) ↦[Finset.univ]{fullShare} f) := by
  rw [bigSep_congr fun y _ => slots_any c p h y]
  exact pointsTo_blocks_join_exists (slotSet c p h) (slotSet_disjoint c p h) (slotSet_cover c p h) (fun _ => default)

/-! ## The result -/

def outI (y : Dev nD × Fin 2 × Fin 2) : Finset S2048x1024.Idx :=
  (Rect.unit (s := S2048x1024) (blkOff y.1 y.2.1 y.2.2) S256x512.size (blkOff_inb y.1 y.2.1 y.2.2)).set

theorem mem_outI (y : Dev nD × Fin 2 × Fin 2) (i : S2048x1024.Idx) :
    i ∈ outI y ↔ (i 0).val / 256 = 2 * y.1.val + y.2.1.val ∧ (i 1).val / 512 = y.2.2.val := by
  unfold outI
  rw [Rect.mem_set_unit]
  constructor
  · intro h
    have a0 := h 0
    have a1 := h 1
    change 512 * y.1.val + 256 * y.2.1.val ≤ (i 0).val ∧ (i 0).val < 512 * y.1.val + 256 * y.2.1.val + 256 at a0
    change 512 * y.2.2.val ≤ (i 1).val ∧ (i 1).val < 512 * y.2.2.val + 512 at a1
    omega
  · rintro ⟨e0, e1⟩ a
    match a with
    | 0 => change 512 * y.1.val + 256 * y.2.1.val ≤ (i 0).val ∧ (i 0).val < 512 * y.1.val + 256 * y.2.1.val + 256; omega
    | 1 => change 512 * y.2.2.val ≤ (i 1).val ∧ (i 1).val < 512 * y.2.2.val + 512; omega

theorem outI_disjoint : ∀ y y', y ≠ y' → Disjoint (outI y) (outI y') := by
  intro y y' hn
  rw [Finset.disjoint_left]
  intro i hi hi'
  rw [mem_outI] at hi hi'
  have := y.2.1.isLt
  have := y'.2.1.isLt
  exact hn (Prod.ext (Fin.ext (by omega)) (Prod.ext (Fin.ext (by omega)) (Fin.ext (by omega))))

/-- The block an element of the result lies in. -/
def blockOf (i : S2048x1024.Idx) : Dev nD × Fin 2 × Fin 2 :=
  (⟨(i 0).val / 512, by have h := (i 0).isLt; change (i 0).val < 2048 at h; change (i 0).val / 512 < 4; omega⟩,
   ⟨(i 0).val % 512 / 256, by omega⟩, ⟨(i 1).val / 512, by have h := (i 1).isLt; change (i 1).val < 1024 at h; omega⟩)
/-- Its place there. -/
def placeOf (i : S2048x1024.Idx) : S256x512.Idx
  | 0 => ⟨(i 0).val % 256, Nat.mod_lt _ (by decide)⟩
  | 1 => ⟨(i 1).val % 512, Nat.mod_lt _ (by decide)⟩

theorem outI_cover : Finset.univ.biUnion outI = Finset.univ := by
  ext i
  simp only [Finset.mem_biUnion, Finset.mem_univ, true_and, iff_true]
  refine ⟨blockOf i, (mem_outI _ _).mpr ⟨?_, rfl⟩⟩
  change (i 0).val / 256 = 2 * ((i 0).val / 512) + (i 0).val % 512 / 256
  omega

/-- The result: every block as the device that finishes it leaves it. -/
def OUT : Vec F S2048x1024 .bf16 := fun i => oblk m (blockOf i).1 (blockOf i).2.1 (blockOf i).2.2 (placeOf i)

/-- The result's blocks. -/
theorem OUT_read (q : Dev nD) (sub h : Fin 2) : (outB q sub h).view.read (Elt F) (OUT m) = oblk m q sub h := by
  funext j
  rw [View.read_apply]
  change OUT m ((Rect.unit (s := S2048x1024) (blkOff q sub h) S256x512.size (blkOff_inb q sub h)).emb j) = _
  have e0 : ((Rect.unit (s := S2048x1024) (blkOff q sub h) S256x512.size (blkOff_inb q sub h)).emb j 0).val = 512 * q.val + 256 * sub.val + 1 * (j 0).val := rfl
  have e1 : ((Rect.unit (s := S2048x1024) (blkOff q sub h) S256x512.size (blkOff_inb q sub h)).emb j 1).val = 512 * h.val + 1 * (j 1).val := rfl
  have h0 : (j 0).val < 256 := (j 0).isLt
  have h1 : (j 1).val < 512 := (j 1).isLt
  generalize (Rect.unit (s := S2048x1024) (blkOff q sub h) S256x512.size (blkOff_inb q sub h)).emb j = i at e0 e1
  have eb : blockOf i = (q, sub, h) :=
    Prod.ext (Fin.ext (by change (i 0).val / 512 = q.val; omega))
      (Prod.ext (Fin.ext (by change (i 0).val % 512 / 256 = sub.val; omega)) (Fin.ext (by change (i 1).val / 512 = h.val; omega)))
  have ep : placeOf i = j := by
    funext a
    match a with
    | 0 => exact Fin.ext (by change (i 0).val % 256 = (j 0).val; omega)
    | 1 => exact Fin.ext (by change (i 1).val % 512 = (j 1).val; omega)
  unfold OUT
  rw [eb, ep]

theorem outB_set (y : Dev nD × Fin 2 × Fin 2) : (outB y.1 y.2.1 y.2.2).view.set = outI y := View.set_slice_whole cc0_stg5_0 _

theorem out_split : iprop(∃ f, oM.view.loc (c : Thread nD τ) ↦[Finset.univ]{fullShare} f)
    ⊢ (bigSep Finset.univ fun y : Dev nD × Fin 2 × Fin 2 => (any c (outB y.1 y.2.1 y.2.2) : sProp 𝕄)) := by
  iintro ⟨%f, H⟩
  ihave H := (Entails.of_eq (pointsTo_blocks (ℓ := (c : Thread nD τ).loc cc0_stg5_0) outI outI_disjoint outI_cover f)) $$ H
  have e : (bigSep Finset.univ fun y => iprop((c : Thread nD τ).loc cc0_stg5_0 ↦[outI y]{fullShare} f) : sProp 𝕄)
      ⊢ bigSep Finset.univ fun y : Dev nD × Fin 2 × Fin 2 => any c (outB y.1 y.2.1 y.2.2) :=
    bigSep_mono fun y _ => by
      have e : iprop((c : Thread nD τ).loc cc0_stg5_0 ↦[outI y]{fullShare} f) ⊢ (any c (outB y.1 y.2.1 y.2.2) : sProp 𝕄) := by
        unfold any; iintro H; iexists f
        iapply (Entails.of_eq (congrArg (fun S => iprop((c : Thread nD τ).loc cc0_stg5_0 ↦[S]{fullShare} f)) (View.set_slice_whole cc0_stg5_0 _).symm)); iexact H
      exact e
  iapply e; iexact H

theorem out_join : (bigSep Finset.univ fun y : Dev nD × Fin 2 × Fin 2 => (has c (outB y.1 y.2.1 y.2.2) (oblk m y.1 y.2.1 y.2.2) : sProp 𝕄))
    ⊢ iprop(oM.view.loc (c : Thread nD τ) ↦[Finset.univ]{fullShare} OUT m) := by
  refine BIBase.Entails.trans ?_ (Entails.of_eq (pointsTo_blocks (ℓ := (c : Thread nD τ).loc cc0_stg5_0) outI outI_disjoint outI_cover (OUT m)).symm)
  refine bigSep_mono fun y _ => ?_
  change (has c (outB y.1 y.2.1 y.2.2) (oblk m y.1 y.2.1 y.2.2) : sProp 𝕄) ⊢ iprop((c : Thread nD τ).loc cc0_stg5_0 ↦[outI y]{fullShare} OUT m)
  unfold has
  iintro ⟨%f, %hf, H⟩
  iapply (Entails.of_eq (congrArg (fun S => iprop((c : Thread nD τ).loc cc0_stg5_0 ↦[S]{fullShare} OUT m)) (outB_set y)))
  iapply (Entails.of_eq (pointsTo_congr (fun i hi => by
    obtain ⟨x, -, rfl⟩ := Finset.mem_map.mp hi
    exact View.eq_of_read_eq ((congrFun (hf.trans (OUT_read m y.1 y.2.1 y.2.2).symm) x)))))
  iexact H

/-! ## Sorting blocks into chains -/

/-- A chain's six copies. -/
def six (Φ : X → sProp 𝕄) (h sub : Fin 2) : sProp 𝕄 :=
  iprop(Φ (rs h sub 0) ∗ Φ (rs h sub 1) ∗ Φ (rs h sub 2) ∗ Φ (ag h sub 0) ∗ Φ (ag h sub 1) ∗ Φ (ag h sub 2))
/-- All four chains. -/
def four (Φ : Fin 2 → Fin 2 → sProp 𝕄) : sProp 𝕄 := iprop(Φ 0 0 ∗ Φ 0 1 ∗ Φ 1 0 ∗ Φ 1 1)

omit [FloatOps F] in
theorem four_mono (Φ Ψ : Fin 2 → Fin 2 → sProp 𝕄) (H : ∀ h sub, Φ h sub ⊢ Ψ h sub) : four Φ ⊢ four Ψ := by
  have h00 := H 0 0
  have h01 := H 0 1
  have h10 := H 1 0
  have h11 := H 1 1
  unfold four
  iintro ⟨A, B, C, D⟩
  isplitl [A]; · iapply h00; iexact A
  isplitl [B]; · iapply h01; iexact B
  isplitl [C]; · iapply h10; iexact C
  iapply h11; iexact D

omit [FloatOps F] in
theorem four_sep (Φ Ψ : Fin 2 → Fin 2 → sProp 𝕄) : iprop(four Φ ∗ four Ψ) ⊢ four fun h sub => iprop(Φ h sub ∗ Ψ h sub) := by
  unfold four
  iintro ⟨⟨A, B, C, D⟩, A', B', C', D'⟩
  isplitl [A A']; · (isplitl [A] <;> iassumption)
  isplitl [B B']; · (isplitl [B] <;> iassumption)
  isplitl [C C']; · (isplitl [C] <;> iassumption)
  isplitl [D] <;> iassumption

omit [FloatOps F] in
theorem sep_four (Φ Ψ : Fin 2 → Fin 2 → sProp 𝕄) : (four fun h sub => iprop(Φ h sub ∗ Ψ h sub)) ⊢ iprop(four Φ ∗ four Ψ) := by
  unfold four
  iintro ⟨⟨A, A'⟩, ⟨B, B'⟩, ⟨C, C'⟩, D, D'⟩
  isplitl [A B C D]
  · isplitl [A]; · iexact A
    isplitl [B]; · iexact B
    isplitl [C] <;> iassumption
  isplitl [A']; · iexact A'
  isplitl [B']; · iexact B'
  isplitl [C'] <;> iassumption

omit [FloatOps F] in
/-- The copies, chain by chain. -/
theorem copies_four (Φ : X → sProp 𝕄) : bigSep Finset.univ Φ ⊣⊢ four (six Φ) := by
  rw [bigSep_univ_eq_bigSepL [rs 0 0 0, rs 0 0 1, rs 0 0 2, ag 0 0 0, ag 0 0 1, ag 0 0 2, rs 0 1 0, rs 0 1 1, rs 0 1 2, ag 0 1 0, ag 0 1 1, ag 0 1 2,
    rs 1 0 0, rs 1 0 1, rs 1 0 2, ag 1 0 0, ag 1 0 1, ag 1 0 2, rs 1 1 0, rs 1 1 1, rs 1 1 2, ag 1 1 0, ag 1 1 1, ag 1 1 2] (by decide +kernel) (by decide +kernel)]
  unfold four six
  constructor
  · change iprop(_ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _) ⊢ _
    iintro ⟨A0, A1, A2, A3, A4, A5, B0, B1, B2, B3, B4, B5, C0, C1, C2, C3, C4, C5, D⟩
    isplitl [A0 A1 A2 A3 A4 A5]
    · isplitl [A0]; · iexact A0
      isplitl [A1]; · iexact A1
      isplitl [A2]; · iexact A2
      isplitl [A3]; · iexact A3
      isplitl [A4] <;> iassumption
    isplitl [B0 B1 B2 B3 B4 B5]
    · isplitl [B0]; · iexact B0
      isplitl [B1]; · iexact B1
      isplitl [B2]; · iexact B2
      isplitl [B3]; · iexact B3
      isplitl [B4] <;> iassumption
    isplitl [C0 C1 C2 C3 C4 C5]
    · isplitl [C0]; · iexact C0
      isplitl [C1]; · iexact C1
      isplitl [C2]; · iexact C2
      isplitl [C3]; · iexact C3
      isplitl [C4] <;> iassumption
    iexact D
  · change _ ⊢ iprop(_ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _)
    iintro ⟨⟨A0, A1, A2, A3, A4, A5⟩, ⟨B0, B1, B2, B3, B4, B5⟩, ⟨C0, C1, C2, C3, C4, C5⟩, D⟩
    isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    isplitl [B5]; · iexact B5
    isplitl [C0]; · iexact C0
    isplitl [C1]; · iexact C1
    isplitl [C2]; · iexact C2
    isplitl [C3]; · iexact C3
    isplitl [C4]; · iexact C4
    isplitl [C5]; · iexact C5
    iexact D

omit [FloatOps F] in
/-- A ring's copies, chain by chain. -/
theorem ring_two (Φ : X → sProp 𝕄) (h : Fin 2) :
    (bigSep Finset.univ fun y : Fin 2 × Fin 3 × Fin 2 => Φ (h, y)) ⊣⊢ iprop(six Φ h 0 ∗ six Φ h 1) := by
  rw [bigSep_univ_eq_bigSepL [((0, 0, 0) : Fin 2 × Fin 3 × Fin 2), (0, 1, 0), (0, 2, 0), (1, 0, 0), (1, 1, 0), (1, 2, 0),
    (0, 0, 1), (0, 1, 1), (0, 2, 1), (1, 0, 1), (1, 1, 1), (1, 2, 1)] (by decide +kernel) (by decide +kernel)]
  unfold six
  constructor
  · change iprop(_ ∗ _ ∗ _ ∗ _ ∗ _ ∗ _ ∗ _ ∗ _ ∗ _ ∗ _ ∗ _ ∗ _) ⊢ _
    iintro ⟨A0, A1, A2, A3, A4, A5, B⟩
    isplitl [A0 A1 A2 A3 A4 A5]
    · isplitl [A0]; · iexact A0
      isplitl [A1]; · iexact A1
      isplitl [A2]; · iexact A2
      isplitl [A3]; · iexact A3
      isplitl [A4] <;> iassumption
    iexact B
  · change _ ⊢ iprop(_ ∗ _ ∗ _ ∗ _ ∗ _ ∗ _ ∗ _ ∗ _ ∗ _ ∗ _ ∗ _ ∗ _)
    iintro ⟨⟨A0, A1, A2, A3, A4, A5⟩, B⟩
    isplitl [A0]; · iexact A0
    isplitl [A1]; · iexact A1
    isplitl [A2]; · iexact A2
    isplitl [A3]; · iexact A3
    isplitl [A4]; · iexact A4
    isplitl [A5]; · iexact A5
    iexact B

omit [FloatOps F] in
/-- A slot buffer's slots, chain by chain. -/
theorem slots_two (Φ : Fin 3 → Fin 2 → sProp 𝕄) :
    (bigSep Finset.univ fun y : Fin 3 × Fin 2 => Φ y.1 y.2) ⊣⊢ iprop((Φ 0 0 ∗ Φ 1 0 ∗ Φ 2 0) ∗ Φ 0 1 ∗ Φ 1 1 ∗ Φ 2 1) := by
  rw [bigSep_univ_eq_bigSepL [((0, 0) : Fin 3 × Fin 2), (1, 0), (2, 0), (0, 1), (1, 1), (2, 1)] (by decide +kernel) (by decide +kernel)]
  constructor
  · change iprop(Φ 0 0 ∗ Φ 1 0 ∗ Φ 2 0 ∗ Φ 0 1 ∗ Φ 1 1 ∗ Φ 2 1) ⊢ _
    iintro ⟨A0, A1, A2, B⟩
    isplitl [A0 A1 A2]
    · isplitl [A0]; · iexact A0
      isplitl [A1] <;> iassumption
    iexact B
  · change _ ⊢ iprop(Φ 0 0 ∗ Φ 1 0 ∗ Φ 2 0 ∗ Φ 0 1 ∗ Φ 1 1 ∗ Φ 2 1)
    iintro ⟨⟨A0, A1, A2⟩, B⟩
    isplitl [A0]; · iexact A0
    isplitl [A1]; · iexact A1
    isplitl [A2]; · iexact A2
    iexact B

/-- A chain's four blocks of the result: the one the device finishes, the three that come to it. -/
def quad (c : Dev nD) (Φ : Dev nD → Fin 2 → Fin 2 → sProp 𝕄) (h sub : Fin 2) : sProp 𝕄 :=
  iprop(Φ (gchunk h c 0) sub h ∗ Φ (gchunk h (src h c) 0) sub h ∗ Φ (gchunk h (src h c) 1) sub h ∗ Φ (gchunk h (src h c) 2) sub h)

omit [FloatOps F] in
/-- The result's blocks, chain by chain. -/
theorem blocks_four (Φ : Dev nD → Fin 2 → Fin 2 → sProp 𝕄) :
    (bigSep Finset.univ fun y : Dev nD × Fin 2 × Fin 2 => Φ y.1 y.2.1 y.2.2) ⊣⊢ four (quad c Φ) := by
  rw [bigSep_univ_eq_bigSepL
    [(gchunk 0 c 0, (0 : Fin 2), (0 : Fin 2)), (gchunk 0 (src 0 c) 0, 0, 0), (gchunk 0 (src 0 c) 1, 0, 0), (gchunk 0 (src 0 c) 2, 0, 0),
     (gchunk 0 c 0, 1, 0), (gchunk 0 (src 0 c) 0, 1, 0), (gchunk 0 (src 0 c) 1, 1, 0), (gchunk 0 (src 0 c) 2, 1, 0),
     (gchunk 1 c 0, 0, 1), (gchunk 1 (src 1 c) 0, 0, 1), (gchunk 1 (src 1 c) 1, 0, 1), (gchunk 1 (src 1 c) 2, 0, 1),
     (gchunk 1 c 0, 1, 1), (gchunk 1 (src 1 c) 0, 1, 1), (gchunk 1 (src 1 c) 1, 1, 1), (gchunk 1 (src 1 c) 2, 1, 1)]
    (by revert c; decide +kernel) (by revert c; decide +kernel)]
  unfold four quad
  constructor
  · change iprop(_ ∗ _ ∗ _ ∗ _ ∗ _ ∗ _ ∗ _ ∗ _ ∗ _ ∗ _ ∗ _ ∗ _ ∗ _ ∗ _ ∗ _ ∗ _) ⊢ _
    iintro ⟨A0, A1, A2, A3, B0, B1, B2, B3, C0, C1, C2, C3, D⟩
    isplitl [A0 A1 A2 A3]
    · isplitl [A0]; · iexact A0
      isplitl [A1]; · iexact A1
      isplitl [A2] <;> iassumption
    isplitl [B0 B1 B2 B3]
    · isplitl [B0]; · iexact B0
      isplitl [B1]; · iexact B1
      isplitl [B2] <;> iassumption
    isplitl [C0 C1 C2 C3]
    · isplitl [C0]; · iexact C0
      isplitl [C1]; · iexact C1
      isplitl [C2] <;> iassumption
    iexact D
  · change _ ⊢ iprop(_ ∗ _ ∗ _ ∗ _ ∗ _ ∗ _ ∗ _ ∗ _ ∗ _ ∗ _ ∗ _ ∗ _ ∗ _ ∗ _ ∗ _ ∗ _)
    iintro ⟨⟨A0, A1, A2, A3⟩, ⟨B0, B1, B2, B3⟩, ⟨C0, C1, C2, C3⟩, D⟩
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [C0]; · iexact C0
    isplitl [C1]; · iexact C1
    isplitl [C2]; · iexact C2
    isplitl [C3]; · iexact C3
    iexact D

/-! ## The blocks lent and borrowed -/

/-- The blocks a device writes at its neighbours. -/
def borrowed (c : Dev nD) : Fin 2 → Fin 2 → sProp 𝕄 := six fun x => any (dst x.1 c) (dstM c x)
/-- The blocks its neighbours write on it. -/
def lent (c : Dev nD) : Fin 2 → Fin 2 → sProp 𝕄 := six fun x => any c (dstM (src x.1 c) x)

theorem bars_in : (iprop(barPay 0 c ∗ barPay 1 c) : sProp 𝕄) ⊢ four (borrowed c) := by
  have e0 := (ring_two (F := F) (fun x => any (dst x.1 c) (dstM c x)) 0).1
  have e1 := (ring_two (F := F) (fun x => any (dst x.1 c) (dstM c x)) 1).1
  unfold barPay borrowed four
  iintro ⟨A, B⟩
  ihave A := e0 $$ A
  ihave B := e1 $$ B
  icases A with ⟨A0, A1⟩
  isplitl [A0]; · iexact A0
  isplitl [A1]; · iexact A1
  iexact B

theorem bars_out : four (lent c) ⊢ (iprop(barPay 0 (src 0 c) ∗ barPay 1 (src 1 c)) : sProp 𝕄) := by
  have e0 := (ring_two (F := F) (fun x => any c (dstM (src x.1 c) x)) 0).2
  have e1 := (ring_two (F := F) (fun x => any c (dstM (src x.1 c) x)) 1).2
  unfold barPay lent four
  rw [dst_src, dst_src]
  iintro ⟨A0, A1, B⟩
  isplitl [A0 A1]
  · iapply e0
    isplitl [A0] <;> iassumption
  iapply e1; iexact B

/-- All the scratch slots and the result buffer, in blocks. -/
theorem mem_in : iprop(((∃ f, (sbM 0).view.loc (c : Thread nD τ) ↦[Finset.univ]{fullShare} f) ∗ (∃ f, (sbM 1).view.loc (c : Thread nD τ) ↦[Finset.univ]{fullShare} f)
      ∗ (∃ f, (cmM 0).view.loc (c : Thread nD τ) ↦[Finset.univ]{fullShare} f) ∗ (∃ f, (cmM 1).view.loc (c : Thread nD τ) ↦[Finset.univ]{fullShare} f))
      ∗ (∃ f, oM.view.loc (c : Thread nD τ) ↦[Finset.univ]{fullShare} f))
    ⊢ (iprop(four (ready c) ∗ four (lent c)) : sProp 𝕄) := by
  have s (p h : Fin 2) := (slots_split (F := F) c p h).trans (slots_two (F := F) fun s b => any c (slotRef (slotM p h) s b)).1
  have o := (out_split (F := F) c).trans (blocks_four c fun q sub h => any c (outB q sub h)).1
  have s00 := s 0 0
  have s01 := s 0 1
  have s10 := s 1 0
  have s11 := s 1 1
  rw [slotM_out] at s00 s01
  rw [slotM_inn] at s10 s11
  refine BIBase.Entails.trans ?_ (sep_four (ready c) (lent c))
  unfold four quad at *
  unfold ready lent six
  iintro ⟨⟨S0, S1, C0, C1⟩, O⟩
  ihave S0 := s00 $$ S0
  ihave S1 := s01 $$ S1
  ihave C0 := s10 $$ C0
  ihave C1 := s11 $$ C1
  ihave O := o $$ O
  icases S0 with ⟨⟨S000, S010, S020⟩, S001, S011, S021⟩
  icases S1 with ⟨⟨S100, S110, S120⟩, S101, S111, S121⟩
  icases C0 with ⟨⟨C000, C010, C020⟩, C001, C011, C021⟩
  icases C1 with ⟨⟨C100, C110, C120⟩, C101, C111, C121⟩
  icases O with ⟨⟨P0, P1, P2, P3⟩, ⟨Q0, Q1, Q2, Q3⟩, ⟨R0, R1, R2, R3⟩, T0, T1, T2, T3⟩
  isplitl [S000 S010 S020 C000 C010 C020 P0 P1 P2 P3]
  · isplitl [S000 S010 S020 P0]
    · isplitl [S000]; · iexact S000
      isplitl [S010]; · iexact S010
      isplitl [S020] <;> iassumption
    isplitl [C000]; · iexact C000
    isplitl [C010]; · iexact C010
    isplitl [C020]; · iexact C020
    isplitl [P1]; · iexact P1
    isplitl [P2]; · iexact P2
    iexact P3
  isplitl [S001 S011 S021 C001 C011 C021 Q0 Q1 Q2 Q3]
  · isplitl [S001 S011 S021 Q0]
    · isplitl [S001]; · iexact S001
      isplitl [S011]; · iexact S011
      isplitl [S021] <;> iassumption
    isplitl [C001]; · iexact C001
    isplitl [C011]; · iexact C011
    isplitl [C021]; · iexact C021
    isplitl [Q1]; · iexact Q1
    isplitl [Q2]; · iexact Q2
    iexact Q3
  isplitl [S100 S110 S120 C100 C110 C120 R0 R1 R2 R3]
  · isplitl [S100 S110 S120 R0]
    · isplitl [S100]; · iexact S100
      isplitl [S110]; · iexact S110
      isplitl [S120] <;> iassumption
    isplitl [C100]; · iexact C100
    isplitl [C110]; · iexact C110
    isplitl [C120]; · iexact C120
    isplitl [R1]; · iexact R1
    isplitl [R2]; · iexact R2
    iexact R3
  isplitl [S101 S111 S121 T0]
  · isplitl [S101]; · iexact S101
    isplitl [S111]; · iexact S111
    isplitl [S121] <;> iassumption
  isplitl [C101]; · iexact C101
  isplitl [C111]; · iexact C111
  isplitl [C121]; · iexact C121
  isplitl [T1]; · iexact T1
  isplitl [T2]; · iexact T2
  iexact T3

/-- What a copy needs besides the block it goes to. -/
def rights (c : Dev nD) (x : X) : sProp 𝕄 :=
  iprop(dutyTok ER (sendCell c x) 0 (0 : D) ∗ dutyTok ER (recvCell (dst x.1 c) x) 0 (0 : D)
    ∗ cred (tallyAt (recvCell c x) () N) ∗ atPos ER (recvCell c x) 0 ∅ 0 ∗ atPos ER (sendCell c x) 0 ∅ 0)

/-- A chain's beginning, from its parts. -/
theorem stage0_in (h sub : Fin 2) : (iprop((ready c h sub ∗ borrowed c h sub) ∗ six (rights c) h sub) : sProp 𝕄) ⊢ stage0 c h sub := by
  unfold ready borrowed six rights stage0 todo
  iintro ⟨⟨⟨S0, S1, S2, O⟩, B0, B1, B2, B3, B4, B5⟩, R0, R1, R2, R3, R4, R5⟩
  isplitl [B0 R0]; · (isplitl [B0] <;> iassumption)
  isplitl [B1 R1]; · (isplitl [B1] <;> iassumption)
  isplitl [B2 R2]; · (isplitl [B2] <;> iassumption)
  isplitl [B3 R3]; · (isplitl [B3] <;> iassumption)
  isplitl [B4 R4]; · (isplitl [B4] <;> iassumption)
  isplitl [B5 R5]; · (isplitl [B5] <;> iassumption)
  isplitl [S0]; · iexact S0
  isplitl [S1]; · iexact S1
  isplitl [S2] <;> iassumption

theorem has_any' (M : Memref sig .tc .vmem S256x512 .bf16) (v : V F) : has c M v ⊢ (any c M : sProp 𝕄) := by
  unfold has any
  iintro ⟨%f, -, H⟩
  iexists f; iexact H

/-- A chain's end, in parts: the counters, the outgoing slots, the incoming slots, the result's blocks. -/
theorem stage9_out (h sub : Fin 2) : stage9 m c h sub
    ⊢ (iprop(six (gone c) h sub ∗ (any c (slotRef (sbM h) 0 sub) ∗ any c (slotRef (sbM h) 1 sub) ∗ any c (slotRef (sbM h) 2 sub))
      ∗ (any c (slotRef (cmM h) 0 sub) ∗ any c (slotRef (cmM h) 1 sub) ∗ any c (slotRef (cmM h) 2 sub))
      ∗ quad c (fun q sub h => has c (outB q sub h) (oblk m q sub h)) h sub) : sProp 𝕄) := by
  have hs (s : Fin 3) : sendPay m c (rs h sub s) ⊢ (any c (slotRef (sbM h) s sub) : sProp 𝕄) := has_any' c _ _
  have hr (s : Fin 3) : recvPay m c (rs h sub s) ⊢ (any c (slotRef (cmM h) s sub) : sProp 𝕄) := has_any' c _ _
  have hs0 := hs 0
  have hs1 := hs 1
  have hs2 := hs 2
  have hr0 := hr 0
  have hr1 := hr 1
  have hr2 := hr 2
  have o0 : sendPay m c (ag h sub 0) ⊢ (has c (outB (gchunk h c 0) sub h) (oblk m (gchunk h c 0) sub h) : sProp 𝕄) := .rfl
  have o1 : sendPay m c (ag h sub 1) ⊢ (has c (outB (gchunk h (src h c) 0) sub h) (oblk m (gchunk h (src h c) 0) sub h) : sProp 𝕄) := by
    rw [show gchunk h (src h c) 0 = gchunk h c 1 from gchunk_src h c 0]; exact .rfl
  have o2 : sendPay m c (ag h sub 2) ⊢ (has c (outB (gchunk h (src h c) 1) sub h) (oblk m (gchunk h (src h c) 1) sub h) : sProp 𝕄) := by
    rw [show gchunk h (src h c) 1 = gchunk h c 2 from gchunk_src h c 1]; exact .rfl
  have o3 : recvPay m c (ag h sub 2) ⊢ (has c (outB (gchunk h (src h c) 2) sub h) (oblk m (gchunk h (src h c) 2) sub h) : sProp 𝕄) := .rfl
  unfold stage9 back six quad
  iintro ⟨⟨⟨G0, A0⟩, B0⟩, ⟨⟨G1, A1⟩, B1⟩, ⟨⟨G2, A2⟩, B2⟩, ⟨G3, P0⟩, ⟨G4, P1⟩, ⟨G5, P2⟩, P3⟩
  isplitl [G0 G1 G2 G3 G4 G5]
  · isplitl [G0]; · iexact G0
    isplitl [G1]; · iexact G1
    isplitl [G2]; · iexact G2
    isplitl [G3]; · iexact G3
    isplitl [G4] <;> iassumption
  isplitl [A0 A1 A2]
  · isplitl [A0]; · iapply hs0; iexact A0
    isplitl [A1]; · iapply hs1; iexact A1
    iapply hs2; iexact A2
  isplitl [B0 B1 B2]
  · isplitl [B0]; · iapply hr0; iexact B0
    isplitl [B1]; · iapply hr1; iexact B1
    iapply hr2; iexact B2
  isplitl [P0]; · iapply o0; iexact P0
  isplitl [P1]; · iapply o1; iexact P1
  isplitl [P2]; · iapply o2; iexact P2
  iapply o3; iexact P3

/-- All the memory back, the result in it. -/
theorem mem_out : four (stage9 m c)
    ⊢ (iprop(four (six (gone c))
      ∗ ((∃ f, (sbM 0).view.loc (c : Thread nD τ) ↦[Finset.univ]{fullShare} f) ∗ (∃ f, (sbM 1).view.loc (c : Thread nD τ) ↦[Finset.univ]{fullShare} f)
        ∗ (∃ f, (cmM 0).view.loc (c : Thread nD τ) ↦[Finset.univ]{fullShare} f) ∗ (∃ f, (cmM 1).view.loc (c : Thread nD τ) ↦[Finset.univ]{fullShare} f))
      ∗ (oM.view.loc (c : Thread nD τ) ↦[Finset.univ]{fullShare} OUT m)) : sProp 𝕄) := by
  have s (p h : Fin 2) := (slots_two (F := F) fun s b => any c (slotRef (slotM p h) s b)).2.trans (slots_join (F := F) c p h)
  have o := (blocks_four c fun q sub h => has c (outB q sub h) (oblk m q sub h)).2.trans (out_join m c)
  have s00 := s 0 0
  have s01 := s 0 1
  have s10 := s 1 0
  have s11 := s 1 1
  rw [slotM_out] at s00 s01
  rw [slotM_inn] at s10 s11
  refine (four_mono _ _ fun h sub => stage9_out m c h sub).trans ?_
  unfold four at *
  iintro ⟨⟨G0, A0, C0, P0⟩, ⟨G1, A1, C1, P1⟩, ⟨G2, A2, C2, P2⟩, G3, A3, C3, P3⟩
  isplitl [G0 G1 G2 G3]
  · isplitl [G0]; · iexact G0
    isplitl [G1]; · iexact G1
    isplitl [G2] <;> iassumption
  isplitr [P0 P1 P2 P3]
  · isplitl [A0 A1]; · (iapply s00; isplitl [A0]; · iexact A0); iexact A1
    isplitl [A2 A3]; · (iapply s01; isplitl [A2]; · iexact A2); iexact A3
    isplitl [C0 C1]; · (iapply s10; isplitl [C0]; · iexact C0); iexact C1
    iapply s11; isplitl [C2]; · iexact C2
    iexact C3
  iapply o
  isplitl [P0]; · iexact P0
  isplitl [P1]; · iexact P1
  isplitl [P2] <;> iassumption

end Cert.KernelIdeal.Run

end
-- ==== Proof.Point.lean ====
/-
# The kernel's one point

The body, from what the launch deals a device to the result staged and every counter back at zero.
-/
module

public import proofs.«01_k».proof.Proof.Memory

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds at the start and at the end -/

/-- Every cell's invariant and that its round 0 is reached. -/
def records (K : Dev nD × KC → ℕ) : sProp 𝕄 :=
  iprop((bigSep Finset.univ fun ck : Dev nD × KC => cellInv ER (Rd m) (K ck) (kcell ck))
    ∗ bigSep Finset.univ fun ck : Dev nD × KC => reached ER (kcell ck) 0)
instance records_persistent (K : Dev nD × KC → ℕ) : BI.Persistent (records m K) := by unfold records; infer_instance

/-- A device's rights at the barriers, and its place at its own. -/
def barMine (c : Dev nD) : sProp 𝕄 :=
  iprop((dutyTok ER (barCell (src 0 c)) 0 (0 : D) ∗ dutyTok ER (barCell (src 1 c)) 0 (1 : D)) ∗ atPos ER (barCell c) 0 ∅ 0)
/-- Its rights for a copy, and its places at the copy's two cells. -/
def copyMine (c : Dev nD) (x : X) : sProp 𝕄 :=
  iprop((dutyTok ER (sendCell c x) 0 (0 : D) ∗ dutyTok ER (recvCell (dst x.1 c) x) 0 (0 : D)) ∗ atPos ER (sendCell c x) 0 ∅ 0 ∗ atPos ER (recvCell c x) 0 ∅ 0)

/-- What a device starts from: the records at some names, its rights and places, its claims, the levels. -/
def begun (c : Dev nD) : sProp 𝕄 :=
  iprop((∃ K, records m K ∗ barMine c ∗ bigSep Finset.univ (copyMine c))
    ∗ (cred (tallyAt (barCell c) () 2) ∗ bigSep Finset.univ fun x : X => cred (tallyAt (recvCell c x) () N)) ∗ levAts L lv)

def before₀ (c : Dev nD) : sProp 𝕄 := iprop(begun m c ∗ Pipeline.scopedRest (Ix := Unit) (Name := ℕ) (U := UU) (Lvl := ℕ) (Val := Elt F) spec0 c)
/-- Afterwards: its counters at zero, its scratch at some contents. -/
def after₁ (c : Dev nD) : sProp 𝕄 :=
  iprop((semVal (barCell c) 0 ∗ bigSep Finset.univ (gone (F := F) c)) ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => vx m c
    | ⟨1, _⟩ => vrw m c
    | ⟨2, _⟩ => vri m c
    | ⟨3, _⟩ => vew m c
    | ⟨4, _⟩ => vsw m c
    | ⟨5, _⟩ => OUT m
  Φ t := match t with
    | ⟨0, _⟩ => before₀ m c
    | ⟨_ + 1, _⟩ => after₁ c
  q _ := fullShare
  owed t := match t with
    | ⟨0, _⟩ => O₀ c
    | ⟨_ + 1, _⟩ => 0

/-! ## The body -/

/-- The scratch, each buffer at some contents. -/
def scratch (c : Dev nD) : sProp 𝕄 :=
  iprop((∃ f, ptM.view.loc (c : Thread nD τ) ↦[Finset.univ]{fullShare} f) ∗ (∃ f, xbM.view.loc (c : Thread nD τ) ↦[Finset.univ]{fullShare} f)
    ∗ (∃ f, (sbM 0).view.loc (c : Thread nD τ) ↦[Finset.univ]{fullShare} f) ∗ (∃ f, (sbM 1).view.loc (c : Thread nD τ) ↦[Finset.univ]{fullShare} f)
    ∗ (∃ f, (cmM 0).view.loc (c : Thread nD τ) ↦[Finset.univ]{fullShare} f) ∗ (∃ f, (cmM 1).view.loc (c : Thread nD τ) ↦[Finset.univ]{fullShare} f))

omit [FloatOps F] in
theorem scratch_eq (c : Dev nD) : (Pipeline.scopedRest (Ix := Unit) (Name := ℕ) (U := UU) (Lvl := ℕ) (Val := Elt F) spec0 c : sProp 𝕄) = scratch c :=
  scopedRest0_eq c

/-- The inputs read after the start. -/
def fixed (c : Dev nD) : sProp 𝕄 :=
  iprop((riM.view.loc (c : Thread nD τ) ↦[Finset.univ]{fullShare} vri m c) ∗ (ewM.view.loc (c : Thread nD τ) ↦[Finset.univ]{fullShare} vew m c)
    ∗ (swM.view.loc (c : Thread nD τ) ↦[Finset.univ]{fullShare} vsw m c))

/-- A copy's rights and claim, put together. -/
theorem rights_in (c : Dev nD) : (iprop(bigSep Finset.univ (copyMine c) ∗ bigSep Finset.univ fun x : X => cred (tallyAt (recvCell c x) () N)) : sProp 𝕄)
    ⊢ four (six (rights c)) := by
  refine BIBase.Entails.trans ?_ (copies_four (F := F) (rights c)).1
  rw [← bigSep_sep']
  refine bigSep_mono fun x _ => ?_
  have e : (iprop(copyMine c x ∗ cred (tallyAt (recvCell c x) () N)) : sProp 𝕄) ⊢ rights c x := by
    unfold copyMine rights
    iintro ⟨⟨⟨A, B⟩, C, D⟩, E⟩
    isplitl [A]; · iexact A
    isplitl [B]; · iexact B
    isplitl [E]; · iexact E
    isplitl [D] <;> iassumption
  exact e

variable (K : Dev nD × KC → ℕ)

/-- The body's specification. -/
theorem body_spec (c : Dev nD) (Q : PUnit.{1} → sProp (MT nD τ sig Unit (Elt F) ℕ UU ℕ)) (h5) (h6) (h7) (h8) (h9) (h10) (h11) :
    iprop((records m K ∗ barMine c ∗ bigSep Finset.univ (copyMine c))
        ∗ (cred (tallyAt (barCell c) () 2) ∗ bigSep Finset.univ fun x : X => cred (tallyAt (recvCell c x) () N)) ∗ levAts L lv
        ∗ scratch c ∗ early m c ∗ fixed m c ∗ (∃ f, oM.view.loc (c : Thread nD τ) ↦[Finset.univ]{fullShare} f) ∗ owesE c (O₀ c))
      ⊢ iprop((((semVal (barCell c) 0 ∗ bigSep Finset.univ (gone (F := F) c)) ∗ scratch c ∗ early m c ∗ fixed m c
          ∗ (oM.view.loc (c : Thread nD τ) ↦[Finset.univ]{fullShare} OUT m) ∗ owesE c 0) -∗ Q ⟨⟩)
        -∗ WP (F := F) c Q (body xM rwM riM ewM swM oM h5 ptM h6 xbM h7 (sbM 0) h8 (sbM 1) h9 (cmM 0) h10 (cmM 1) h11 cc0_scratch6 cc0_scratch7 cc0_scratch8 cc0_scratch9)) := by
  rw [show body xM rwM riM ewM swM oM h5 ptM h6 xbM h7 (sbM 0) h8 (sbM 1) h9 (cmM 0) h10 (cmM 1) h11 cc0_scratch6 cc0_scratch7 cc0_scratch8 cc0_scratch9
    = (.op .deviceId fun d => start (F := F) xM rwM riM ptM h6 xbM h7 d (rest h5 h8 h9 h10 h11 d (.ret ⟨⟩))) from rfl]
  unfold WP
  rw [wp_deviceId]
  unfold records barMine scratch fixed
  iintro ⟨⟨⟨#HI, #HR⟩, ⟨HT, HaB⟩, HM⟩, ⟨HcB, HC⟩, #HL, ⟨Hp, Hb, Hs0, Hs1, Hc0, Hc1⟩, He, ⟨Hri, Hew, Hsw⟩, Ho, HO⟩ Hk
  ihave #HE : env m K $$ []
  · unfold env
    isplitr; · iexact HI
    isplitr; · iexact HR
    iexact HL
  ihave HR' := (rights_in (F := F) c) $$ [HM HC]
  · isplitl [HM] <;> iassumption
  ihave HM := (mem_in (F := F) c) $$ [Hs0 Hs1 Hc0 Hc1 Ho]
  · isplitr [Ho]
    · isplitl [Hs0]; · iexact Hs0
      isplitl [Hs1]; · iexact Hs1
      isplitl [Hc0] <;> iassumption
    iexact Ho
  icases HM with ⟨Hready, Hlent⟩
  ihave Hpay := (bars_out (F := F) c) $$ Hlent
  iapply (start_spec m K c Q h6 h7 _) $$ [HT HaB HcB Hpay He Hp Hb Hri Hew Hsw HO]
  · isplitr; · iexact HE
    isplitl [HT HaB HcB Hpay]
    · unfold barTodo
      isplitl [HT]; · iexact HT
      isplitl [Hpay]; · iexact Hpay
      isplitl [HcB] <;> iassumption
    isplitl [He]; · iexact He
    isplitl [Hp Hb Hri Hew Hsw]
    · isplitl [Hb]; · iexact Hb
      isplitl [Hri]; · iexact Hri
      isplitl [Hp]; · iexact Hp
      isplitl [Hew] <;> iassumption
    iexact HO
  iintro ⟨He, Hins, Hpay, HzB, HO⟩
  ihave Hbor := (bars_in (F := F) c) $$ Hpay
  have st : (iprop(four (ready c) ∗ four (borrowed c) ∗ four (six (rights c))) : sProp 𝕄) ⊢ four (stage0 c) := by
    iintro ⟨A, B, C⟩
    have e1 := four_sep (F := F) (ready c) (borrowed c)
    have e2 := four_sep (F := F) (fun h sub => iprop(ready c h sub ∗ borrowed c h sub)) (six (rights c))
    have e3 := four_mono (F := F) _ _ fun h sub => stage0_in c h sub
    iapply e3
    iapply e2
    isplitr [C]
    · iapply e1
      isplitl [A] <;> iassumption
    iexact C
  ihave Hst := st $$ [Hready Hbor HR']
  · isplitl [Hready]; · iexact Hready
    isplitl [Hbor] <;> iassumption
  iapply (rest_spec m K c Q h5 h8 h9 h10 h11 _) $$ [Hins Hst HO]
  · isplitr; · iexact HE
    isplitl [Hins]; · iexact Hins
    isplitl [Hst]; · unfold four; iexact Hst
    iexact HO
  iintro ⟨Hins, Hst, HO⟩
  ihave H := (mem_out m c) $$ [Hst]
  · unfold four; iexact Hst
  icases H with ⟨Hg, ⟨Hs0, Hs1, Hc0, Hc1⟩, Ho⟩
  ihave Hg := (copies_four (F := F) (gone c)).2 $$ Hg
  unfold ins
  icases Hins with ⟨Hb, Hri, Hp, Hew, Hsw⟩
  unfold WP
  rw [wp_ret]; imodintro
  iapply Hk
  isplitl [HzB Hg]
  · isplitl [HzB] <;> iassumption
  isplitl [Hp Hb Hs0 Hs1 Hc0 Hc1]
  · isplitl [Hp]; · iexists _; iexact Hp
    isplitl [Hb]; · iexists _; iexact Hb
    isplitl [Hs0]; · iexact Hs0
    isplitl [Hs1]; · iexact Hs1
    isplitl [Hc0] <;> iassumption
  isplitl [He]; · iexact He
  isplitl [Hri Hew Hsw]
  · isplitl [Hri]; · iexact Hri
    isplitl [Hew] <;> iassumption
  isplitl [Ho] <;> iassumption

end Cert.KernelIdeal.Run

end
-- ==== Proof.Launch.lean ====
/-
# The launch

What the launch deals each device, dealt around the rings; and the run of the whole program.
-/
module

public import proofs.«01_k».proof.Proof.Point
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 8000 in
def bodyPre (c : Dev nD) : sProp 𝕄 :=
  iprop(before₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

set_option maxRecDepth 8000 in
def bodyPost (c : Dev nD) : sProp 𝕄 :=
  iprop(after₁ c ∗ (dats m ρ 0 c).owesAt () t0_0.succ ∗ stg c cc0_stg0_0 (vx m c) ∗ stg c cc0_stg1_0 (vrw m c) ∗ stg c cc0_stg2_0 (vri m c)
    ∗ stg c cc0_stg3_0 (vew m c) ∗ stg c cc0_stg4_0 (vsw m c) ∗ stg c cc0_stg5_0 (OUT m))

set_option maxRecDepth 200000 in
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ wp frame (wpE (defs₀ (F := F)) 𝒱₀ c none) Set.univ
    (cc0_body xM (Memref.isWhole_whole _) rwM (Memref.isWhole_whole _) riM (Memref.isWhole_whole _) ewM (Memref.isWhole_whole _) swM (Memref.isWhole_whole _)
      oM (Memref.isWhole_whole _) ptM (Memref.isWhole_whole _) xbM (Memref.isWhole_whole _) (sbM 0) (sbM_whole 0) (sbM 1) (sbM_whole 1)
      (cmM 0) (cmM_whole 0) (cmM 1) (cmM_whole 1) cc0_scratch6 cc0_scratch7 cc0_scratch8 cc0_scratch9) (fun _ => bodyPost m ρ c)
  rw [cc0_body_eq]
  have b := fun K => body_spec m K c (fun _ => bodyPost m ρ c) (Memref.isWhole_whole _) (Memref.isWhole_whole _) (Memref.isWhole_whole _) (sbM_whole 0) (sbM_whole 1) (cmM_whole 0) (cmM_whole 1)
  unfold WP at b
  unfold bodyPre before₀ begun
  rw [scratch_eq]
  iintro ⟨⟨⟨⟨%K, HK⟩, HC, HL⟩, Hscr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  have e0 : f0 = vx m c := by rw [h0]; unfold Dat.before; rw [if_pos (fetch0_0 t0_0)]; rfl
  have e1 : f1 = vrw m c := by rw [h1]; unfold Dat.before; rw [if_pos (fetch0_1 t0_0)]; rfl
  have e2 : f2 = vri m c := by rw [h2]; unfold Dat.before; rw [if_pos (fetch0_2 t0_0)]; rfl
  have e3 : f3 = vew m c := by rw [h3]; unfold Dat.before; rw [if_pos (fetch0_3 t0_0)]; rfl
  have e4 : f4 = vsw m c := by rw [h4]; unfold Dat.before; rw [if_pos (fetch0_4 t0_0)]; rfl
  subst e0 e1 e2 e3 e4
  unfold Dat.owesAt Pipeline.owesWithin
  icases HO with ⟨%W, %hW, HO⟩
  rw [show (dats m ρ 0 c).owed t0_0.castSucc = O₀ c from rfl]
  have b' := b K
  iapply b' $$ [HK HC HL Hscr HO H0 H1 H2 H3 H4 H5]
  · isplitl [HK]; · iexact HK
    isplitl [HC]; · iexact HC
    isplitl [HL]; · iexact HL
    isplitl [Hscr]; · iexact Hscr
    isplitl [H0 H1]
    · unfold early; isplitl [H0]; · iexact H0
      iexact H1
    isplitl [H2 H3 H4]
    · unfold fixed; isplitl [H2]; · iexact H2
      isplitl [H3]; · iexact H3
      iexact H4
    isplitl [H5]; · iexists f5; iexact H5
    unfold owesE; iexists W; iexact HO
  unfold early fixed owesE
  iintro ⟨Hz, Hscr, ⟨H0, H1⟩, ⟨H2, H3, H4⟩, H5, ⟨%W', HO⟩⟩
  unfold bodyPost after₁ Dat.owesAt Pipeline.owesWithin
  rw [show (dats m ρ 0 c).owed t0_0.succ = 0 from rfl, scratch_eq]
  isplitl [Hz Hscr]
  · isplitl [Hz]; · iexact Hz
    iexact Hscr
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-! ## The cells and the tokens -/

/-- The kernel's own semaphores: a departure and an arrival per copy. -/
abbrev osem (k : Fin 2 × X) : SemLoc sig := csem (some k)

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel

theorem kcell_injective : Function.Injective (kcell : Dev nD × KC → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

def ringCells : Finset (GSem nD τ sig) := Finset.univ.map ⟨kcell, kcell_injective⟩

/-- Both duties of every cell's first round. -/
abbrev tokOf (y : (Dev nD × KC) × D) : GSem nD τ sig × ℕ × D := (kcell y.1, 0, y.2)
theorem tokOf_injective : Function.Injective tokOf := by
  rintro ⟨a, d⟩ ⟨a', d'⟩ h
  have h1 : a = a' := kcell_injective (congrArg Prod.fst h)
  have h2 : d = d' := congrArg (fun y : GSem nD τ sig × ℕ × D => y.2.2) h
  rw [h1, h2]
def ringToks : Finset (GSem nD τ sig × ℕ × D) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 := bigSep Finset.univ fun k : KC => bigSep Finset.univ fun d : D => dutyTok ER (kcell (c, k)) 0 d

/-- What the launch deals a device. -/
def G (c : Dev nD) : sProp 𝕄 :=
  iprop((bigSep Finset.univ fun k : KC => roundState ER (Rd m) (kcell (c, k)) 0)
    ∗ ((bigSep Finset.univ fun k : KC => atPos ER (kcell (c, k)) 0 ∅ 0) ∗ bigSep Finset.univ fun k : KC => reached ER (kcell (c, k)) 0) ∗ toks c)

/-- What it becomes once dealt around. -/
def G' (c : Dev nD) : sProp 𝕄 := iprop(∃ K, records m K ∗ barMine c ∗ bigSep Finset.univ (copyMine c))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  have hT : bigSep ringToks (fun y => (dutyTok ER y.1 y.2.1 y.2.2 : sProp 𝕄)) = bigSep Finset.univ fun c : Dev nD => toks c := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat' Hr']
  · isplitl [Hat'] <;> iassumption
  iexact Htok'

omit [FloatOps F] in
/-- A device's cells: its barrier, and the two of each copy. -/
theorem cells_split (Φ : KC → sProp 𝕄) :
    bigSep Finset.univ Φ = iprop((bigSep Finset.univ fun k : Fin 2 × X => Φ (some k)) ∗ Φ none) := by
  rw [bigSep_univ_equiv (Equiv.optionEquivSumPUnit.{0} (Fin 2 × X)).symm Φ, bigSep_univ_sum, bigSep_univ_of_subsingleton PUnit.unit]
  rfl

omit [FloatOps F] in
theorem pairs_split (Φ : Fin 2 × X → sProp 𝕄) :
    bigSep Finset.univ Φ = iprop((bigSep Finset.univ fun x : X => Φ (0, x)) ∗ bigSep Finset.univ fun x : X => Φ (1, x)) := by
  rw [bigSep_univ_prod, bigSep_univ_two]

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : KC => semVal (kcell (c, k)) 0 : sProp 𝕄) := by
  rw [unscopedSems0_eq, cells_split]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ (gone c) := by
  unfold Pipeline.ownSems0 gone
  rw [pairs_split, bigSep_sep']

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (Rd m) κ (kcell (c, k))))
          ∗ ((bigSep Finset.univ fun k : KC => atPos ER (kcell (c, k)) 0 ∅ 0) ∗ bigSep Finset.univ fun k : KC => reached ER (kcell (c, k)) 0) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : KC => semVal (kcell (c, k)) 0) ∗ bigSep Finset.univ fun k : KC => roundState ER (Rd m) (kcell (c, k)) 0)
      ⊢ (|={Set.univ}=> bigSep Finset.univ fun k : KC => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing around the rings -/

omit [FloatOps F] in
/-- A conjunction over the devices and the copies, each copy's device moved on along its ring. -/
theorem along (Φ : Dev nD → X → sProp 𝕄) :
    (bigSep Finset.univ fun c : Dev nD => bigSep Finset.univ fun x : X => Φ c x) = bigSep Finset.univ fun c : Dev nD => bigSep Finset.univ fun x : X => Φ (dst x.1 c) x := by
  rw [bigSep_univ_comm, bigSep_univ_comm (fun (c : Dev nD) (x : X) => Φ (dst x.1 c) x)]
  exact bigSep_congr fun x _ => bigSep_univ_equiv (ring x.1) (fun c => Φ c x)

/-- The tokens and the places, as each device uses them. -/
theorem deal : iprop((bigSep Finset.univ fun c : Dev nD => bigSep Finset.univ fun k : KC => (atPos ER (kcell (c, k)) 0 ∅ 0 : sProp 𝕄))
      ∗ bigSep Finset.univ fun c : Dev nD => (toks c : sProp 𝕄))
    ⊢ bigSep Finset.univ fun c : Dev nD => iprop(barMine (F := F) c ∗ bigSep Finset.univ (copyMine c)) := by
  unfold toks barMine copyMine
  simp only [cells_split, pairs_split, bigSep_univ_two, bigSep_sep']
  rw [bigSep_univ_equiv (ring 0).symm (fun c : Dev nD => (dutyTok ER (kcell (c, none)) 0 (0 : D) : sProp 𝕄)),
    bigSep_univ_equiv (ring 1).symm (fun c : Dev nD => (dutyTok ER (kcell (c, none)) 0 (1 : D) : sProp 𝕄)),
    along fun c x => (dutyTok ER (kcell (c, some (1, x))) 0 (0 : D) : sProp 𝕄)]
  iintro ⟨⟨⟨AS, AR⟩, AB⟩, ⟨⟨TS, TR⟩, TB0⟩, -, TB1⟩
  isplitl [AB TB0 TB1]
  · isplitr [AB]
    · isplitl [TB0]; · iexact TB0
      iexact TB1
    iexact AB
  isplitl [TS TR]
  · isplitl [TS]; · iexact TS
    iexact TR
  isplitl [AS]; · iexact AS
  iexact AR

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KC => iprop(∃ κ : ℕ, cellInv ER (Rd m) κ (kcell (c, k))))
          ∗ ((bigSep Finset.univ fun k : KC => atPos ER (kcell (c, k)) 0 ∅ 0) ∗ bigSep Finset.univ fun k : KC => reached ER (kcell (c, k)) 0) ∗ toks c) : sProp 𝕄)
      ⊢ bigSep Finset.univ (G' m) := by
  rw [bigSep_sep', bigSep_sep', bigSep_sep', ← bigSep_univ_prod (fun ck : Dev nD × KC => iprop(∃ κ : ℕ, cellInv ER (Rd m) κ (kcell ck))),
    ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (Rd m) κ (kcell ck) : sProp 𝕄))) $$ HI
  icases HK with ⟨%K, #HI⟩
  ihave Htk := (deal (F := F)) $$ [Hat Htok]
  · isplitl [Hat] <;> iassumption
  have e : ∀ c ∈ (Finset.univ : Finset (Dev nD)), iprop(records m K ∗ barMine c ∗ bigSep Finset.univ (copyMine c)) ⊢ G' m c := fun c _ => by
    unfold G'; iintro H; iexists K; iexact H
  iapply (with_persistent e)
  isplitr [Htk]
  · unfold records; isplitr; · iexact HI
    iexact HR
  iexact Htk

/-- Every device's counters and dealings at once become every device's share. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The claims -/

theorem bar_eq_iff {a b : Dev nD} : Iff (barCell a = barCell b) (a = b) :=
  ⟨fun h => Fin.ext (congrArg (fun g : GSem nD τ sig => g.1.1.val) h), fun h => h ▸ rfl⟩

theorem recv_eq {a b : Dev nD} {x y : X} (h : recvCell a x = recvCell b y) : a = b ∧ x = y := by
  have := kcell_injective (a₁ := (a, some (1, x))) (a₂ := (b, some (1, y))) h
  cases this; exact ⟨rfl, rfl⟩

theorem recv_ne_bar {a b : Dev nD} {x : X} : recvCell a x ≠ barCell b := fun h => by
  have := kcell_injective (a₁ := (a, some (1, x))) (a₂ := (b, none)) h
  cases this

/-- What a device owes a barrier for its copies: nothing. -/
theorem owe_bar (d c : Dev nD) (l : List X) : owe d l (barCell c) () = 0 := by
  by_contra h
  obtain ⟨x, -, e⟩ := owe_pos (Nat.pos_of_ne_zero h)
  exact recv_ne_bar e.symm

/-- What it owes an arrival. -/
theorem owe_recv (d c : Dev nD) (x : X) (l : List X) (hl : l.Nodup) : owe d l (recvCell c x) () = if x ∈ l ∧ d = src x.1 c then N else 0 := by
  induction l with
  | nil => rw [if_neg (fun h => List.not_mem_nil h.1)]; rfl
  | cons y l ih =>
    obtain ⟨hy, hl⟩ := List.nodup_cons.mp hl
    unfold owe
    rw [Pi.add_apply, Finsupp.add_apply, ih hl, tallyAt_apply]
    by_cases hd : d = src x.1 c
    · subst hd
      by_cases hx : x = y
      · subst hx
        rw [if_neg (fun h => hy h.1), if_pos ⟨by rw [dst_src], rfl⟩, if_pos ⟨List.mem_cons_self, rfl⟩, Nat.zero_add]
      · rw [if_neg (c := recvCell c x = _ ∧ _) (fun h => hx (recv_eq h.1).2), Nat.add_zero]
        simp only [List.mem_cons, hx, false_or]
    · rw [if_neg (c := recvCell c x = _ ∧ _) (fun h => hd (by
        obtain ⟨e1, e2⟩ := recv_eq h.1
        subst e2; rw [e1, src_dst])), if_neg (fun h => hd h.2), if_neg (fun h => hd h.2)]

theorem owed_bar (d c : Dev nD) : O₀ d (barCell c) () = (if d = dst 1 c then 1 else 0) + (if d = dst 0 c then 1 else 0) := by
  unfold O₀ O₁
  rw [Pi.add_apply, Finsupp.add_apply, Pi.add_apply, Finsupp.add_apply, owe_bar, tallyAt_apply, tallyAt_apply, Nat.zero_add]
  congr 1
  · by_cases h : d = dst 1 c
    · subst h; rw [src_dst, if_pos ⟨rfl, rfl⟩, if_pos rfl]
    · rw [if_neg (fun ⟨h1, _⟩ => h (by rw [bar_eq_iff.mp h1, dst_src])), if_neg h]
  · by_cases h : d = dst 0 c
    · subst h; rw [src_dst, if_pos ⟨rfl, rfl⟩, if_pos rfl]
    · rw [if_neg (fun ⟨h1, _⟩ => h (by rw [bar_eq_iff.mp h1, dst_src])), if_neg h]

theorem owed_recv (d c : Dev nD) (x : X) : O₀ d (recvCell c x) () = if d = src x.1 c then N else 0 := by
  unfold O₀ O₁
  rw [Pi.add_apply, Finsupp.add_apply, Pi.add_apply, Finsupp.add_apply, owe_recv d c x order order_nodup,
    tallyAt_ne_cell recv_ne_bar, tallyAt_ne_cell recv_ne_bar, Finsupp.zero_apply, Nat.add_zero, Nat.add_zero]
  simp only [mem_order, true_and]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dst 1 c) fun _ => 1, Finset.sum_ite_eq' Finset.univ (dst 0 c) fun _ => 1, if_pos (Finset.mem_univ _), if_pos (Finset.mem_univ _)]

theorem launch_recv (c : Dev nD) (x : X) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (src x.1 c) fun _ => N,
    if_pos (Finset.mem_univ _)]

def arrival : X ↪ SemLoc sig := ⟨fun x => .dma (recvS x), fun x y h => by
  have := csem_injective (a₁ := some (1, x)) (a₂ := some (1, y)) h
  cases this; rfl⟩

theorem not_bar (x : X) : arrival x ≠ SemLoc.reg barS := by
  intro h; change SemLoc.dma (recvS x) = SemLoc.reg barS at h; cases h

omit [FloatOps F] in
theorem creds (c : Dev nD) :
    (Pipeline.launchCred O₀ c : sProp 𝕄) ⊢ iprop(cred (tallyAt (barCell c) () 2) ∗ bigSep Finset.univ fun x : X => cred (tallyAt (recvCell c x) () N)) := by
  unfold Pipeline.launchCred
  rw [bigSep_univ_at _ (SemLoc.reg barS), launch_bar]
  refine sep_mono_right ?_
  have hs : Finset.univ.map arrival ⊆ Finset.univ.erase (SemLoc.reg barS : SemLoc sig) := fun y hy => by
    obtain ⟨x, -, rfl⟩ := Finset.mem_map.mp hy
    exact Finset.mem_erase.mpr ⟨not_bar x, Finset.mem_univ _⟩
  refine (bigSep_subset hs).trans ?_
  rw [bigSep_map]
  refine Entails.of_eq (bigSep_congr fun x _ => ?_)
  rw [← launch_recv]; rfl

/-! ## The launch's other conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begun m c ∗ emp) := by
  iintro ⟨-, Hlev, Hcr, -, HG⟩
  ihave Hc := (creds (F := F) c) $$ Hcr
  imodintro
  unfold begun G'
  isplitl
  · isplitl [HG]; · iexact HG
    isplitl [Hc]; · iexact Hc
    iexact Hlev
  · iempintro

theorem phi0_intro (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m c from rfl]
  unfold before₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₁ c from rfl, ownSems0_eq, unscopedSems0_eq]
  unfold after₁
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of the program holds its computed contents, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with zero counters, over any float values, every weakly fair run of the program on the four devices
    ends, every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begun m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.Frames.lean ====
/-
# The frames

The program on the four devices ends with its arguments unchanged and its counters at zero.
-/
module

public import proofs.«01_k».proof.Proof.Launch
public import proofs.«01_k».proof.Defs
public import proofs.«01_k».proof.Proof.Gen.Kernel

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An argument's array after the run holds what it held. -/
theorem kept (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The program's run with its values dropped. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c =>
    ⟨(h.1 c (0 : Fin 6)).trans (kept m ρ c (0 : Fin 6) rfl), (h.1 c (1 : Fin 6)).trans (kept m ρ c (1 : Fin 6) rfl),
     (h.1 c (2 : Fin 6)).trans (kept m ρ c (2 : Fin 6) rfl), (h.1 c (3 : Fin 6)).trans (kept m ρ c (3 : Fin 6) rfl),
     (h.1 c (4 : Fin 6)).trans (kept m ρ c (4 : Fin 6) rfl)⟩, h.2⟩) (run_main m ρ)

/-- The program's frame over ideal values. -/
theorem frame_ideal : Cert.quiescent_KernelIdeal := fun m ρ _ => frame (F := Ideal) m ρ

/-! ## The same program over the machine's values -/

set_option maxRecDepth 100000 in
/-- The two printed bodies are one. -/
theorem cc0_body_same (x0 h0 x1 h1 x2 h2 x3 h3 x4 h4 x5 h5 x6 h6 x7 h7 x8 h8 x9 h9 x10 h10 x11 h11 x12 x13 x14 x15) :
  Cert.Kernel.cc0_body (F := F) x0 h0 x1 h1 x2 h2 x3 h3 x4 h4 x5 h5 x6 h6 x7 h7 x8 h8 x9 h9 x10 h10 x11 h11 x12 x13 x14 x15 =
   cc0_body (F := F) x0 h0 x1 h1 x2 h2 x3 h3 x4 h4 x5 h5 x6 h6 x7 h7 x8 h8 x9 h9 x10 h10 x11 h11 x12 x13 x14 x15 := rfl

set_option maxRecDepth 100000 in
/-- So are the two tables of bodies. -/
theorem defs₀_same : (Cert.Kernel.defs₀ (F := F)) = defs₀ (F := F) := by
  refine congrArg Defs.onTc (funext fun l => funext fun a => ?_)
  match l, a with
  | 0, (t, s) => exact cc0_body_same _ _ _ _ _ _ _ _ _ _ _ _ _ _ _ _ _ _ _ _ _ _ _ _ _ _ _ _
/-- The two programs' tables are one. -/
theorem defs_same : (Cert.Kernel.defs (F := F)) = defs (F := F) := congrArg (Pipeline.defs pcfgs) defs₀_same

theorem main_same : (Cert.Kernel.main (F := F)) = main (F := F) := rfl

/-- The program's frame over the machine's values. -/
theorem frame_kernel : Cert.quiescent_Kernel := fun m ρ _ => by
  rw [defs_same, main_same]
  exact frame (F := Bits) m ρ

end Cert.KernelIdeal.Run

end
-- ==== Proof.Algebra.lean ====
module
public import Idealize.ShloMosaic.Lib.Pointwise
public import Idealize.ShloMosaic.Lib.Tactic
@[expose] public section
noncomputable section
namespace Cert.Moe
open Idealize.ShloMosaic

/-! The layer's mathematics, of whole arrays, and the facts about it that the claim needs. -/

variable (X : (⟨2, ![2048, 512]⟩ : Shape).Idx → EReal) (R : (⟨2, ![512, 32]⟩ : Shape).Idx → EReal)
  (I : (⟨2, ![2048, 1]⟩ : Shape).Idx → BitVec 32) (W : (⟨3, ![32, 512, 1024]⟩ : Shape).Idx → EReal)
  (S : (⟨2, ![512, 1024]⟩ : Shape).Idx → EReal)

/-- Token `t`'s score for expert `e`. -/
def score (t : Fin 2048) (e : Fin 32) : EReal := ∑ k : Fin 512, X (ix2 t k) * R (ix2 k e)

/-- The exponential of that score's distance below the token's greatest. -/
def expo (t : Fin 2048) (e : Fin 32) : EReal :=
  Ideal.exp (score X R t e - Finset.fold max (Ideal.ofBits .f32 0xFF800000#32) (score X R t) Finset.univ)

/-- The softmax. -/
def prob (t : Fin 2048) (e : Fin 32) : EReal := Ideal.div (expo X R t e) (∑ e' : Fin 32, expo X R t e')

/-- Expert `e`'s product. -/
def expert (t : Fin 2048) (e : Fin 32) (j : Fin 1024) : EReal := ∑ k : Fin 512, X (ix2 t k) * W (ix3 e k j)

/-- The layer: the shared product, plus the router's weight of the token's expert times that expert's product; no
    second term where the index names no expert. -/
def layer (t : Fin 2048) (j : Fin 1024) : EReal :=
  (∑ k : Fin 512, X (ix2 t k) * S (ix2 k j))
    + if h : (I (ix2 t 0)).toNat < 32 then prob X R t ⟨_, h⟩ * expert X W t ⟨_, h⟩ j else 0

/-! ## The softmax of finite scores -/

theorem neg_inf_lt : Ideal.ofBits .f32 0xFF800000#32 < ⊤ := by
  simp [Ideal.ofBits, Ideal.ieee]

theorem coe_sum {ι : Type} (f : ι → ℝ) (s : Finset ι) : ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

variable {X R}

/-- Scores of finite tokens under a finite matrix are finite. -/
theorem score_real (hX : ∀ i, X i ≠ ⊤ ∧ X i ≠ ⊥) (hR : ∀ i, R i ≠ ⊤ ∧ R i ≠ ⊥) (t : Fin 2048) :
    ∃ s : Fin 32 → ℝ, score X R t = fun e => (s e : EReal) := by
  refine ⟨fun e => ∑ k : Fin 512, (X (ix2 t k)).toReal * (R (ix2 k e)).toReal, funext fun e => ?_⟩
  unfold score
  rw [coe_sum]
  refine Finset.sum_congr rfl fun k _ => ?_
  rw [EReal.coe_mul, EReal.coe_toReal (hX _).1 (hX _).2, EReal.coe_toReal (hR _).1 (hR _).2]

/-- Their exponentials are positive numbers. -/
theorem expo_real (hX : ∀ i, X i ≠ ⊤ ∧ X i ≠ ⊥) (hR : ∀ i, R i ≠ ⊤ ∧ R i ≠ ⊥) (t : Fin 2048) :
    ∃ s : Fin 32 → ℝ, (∀ e, 0 < s e) ∧ ∀ e, expo X R t e = (s e : EReal) := by
  obtain ⟨s, hs⟩ := score_real hX hR t
  have htop : Finset.fold max (Ideal.ofBits .f32 0xFF800000#32) (score X R t) Finset.univ < ⊤ :=
    (Finset.fold_max_lt _).mpr ⟨neg_inf_lt, fun e _ => by rw [hs]; exact EReal.coe_lt_top _⟩
  have hbot : ⊥ < Finset.fold max (Ideal.ofBits .f32 0xFF800000#32) (score X R t) Finset.univ :=
    (Finset.lt_fold_max _).mpr (Or.inr ⟨0, Finset.mem_univ _, by rw [hs]; exact EReal.bot_lt_coe _⟩)
  have hM := EReal.coe_toReal htop.ne hbot.ne'
  refine ⟨fun e => Real.exp (s e - (Finset.fold max (Ideal.ofBits .f32 0xFF800000#32) (score X R t) Finset.univ).toReal),
    fun e => Real.exp_pos _, fun e => ?_⟩
  unfold expo
  rw [← Ideal.exp_coe, EReal.coe_sub, hM, congrFun hs e]

/-- Their softmax is a number, and not negative. -/
theorem prob_real (hX : ∀ i, X i ≠ ⊤ ∧ X i ≠ ⊥) (hR : ∀ i, R i ≠ ⊤ ∧ R i ≠ ⊥) (t : Fin 2048) (e : Fin 32) :
    0 ≤ prob X R t e ∧ prob X R t e ≠ ⊤ := by
  obtain ⟨s, hp, hs⟩ := expo_real hX hR t
  have hsum : 0 < ∑ e', s e' := Finset.sum_pos (fun e' _ => hp e') ⟨0, Finset.mem_univ _⟩
  unfold prob
  rw [Finset.sum_congr rfl fun e' _ => hs e', ← coe_sum, Ideal.div_coe hsum.ne', hs, ← EReal.coe_mul]
  exact ⟨EReal.coe_nonneg.mpr (mul_nonneg (hp e).le (one_div_nonneg.mpr hsum.le)), EReal.coe_ne_top _⟩

/-! ## Weighing the tokens, or the product -/

/-- A number that is not negative passes into a sum. -/
theorem mul_sum_num {ι : Type} (p : EReal) (h0 : 0 ≤ p) (ht : p ≠ ⊤) (f : ι → EReal) (s : Finset ι) :
    p * ∑ k ∈ s, f k = ∑ k ∈ s, p * f k := by
  classical
  induction s using Finset.induction_on with
  | empty => rw [Finset.sum_empty, Finset.sum_empty, mul_zero]
  | insert a s ha ih =>
    rw [Finset.sum_insert ha, Finset.sum_insert ha, EReal.left_distrib_of_nonneg_of_ne_top h0 ht, ih]

/-- A token weighed before the product is the product weighed. -/
theorem weigh (p : EReal) (h0 : 0 ≤ p) (ht : p ≠ ⊤) (t : Fin 2048) (e : Fin 32) (j : Fin 1024) :
    ∑ k : Fin 512, X (ix2 t k) * p * W (ix3 e k j) = p * expert X W t e j := by
  unfold expert
  rw [mul_sum_num p h0 ht]
  refine Finset.sum_congr rfl fun k _ => ?_
  rw [mul_comm (X _) p, mul_assoc]

/-! ## The four devices' shares -/

theorem select_eq {w : ℕ} (a b : BitVec w) (x y : EReal) : Scalar.select (IntOp.cmpi .eq a b) x y = if a = b then x else y := by
  by_cases h : a = b
  · rw [if_pos h]; subst h; simp [Scalar.select, IntOp.cmpi]
  · rw [if_neg h]
    have hb : (a == b) = false := beq_eq_false_iff_ne.mpr h
    simp [Scalar.select, IntOp.cmpi, hb]

variable (X R)

/-- The weight as the kernel picks it: the sum over the experts, the others' entries replaced by zero. -/
def pick (t : Fin 2048) : EReal :=
  ∑ e : Fin 32, Scalar.select (IntOp.cmpi .eq (BitVec.ofNat 32 e.val) (I (ix2 t 0))) (prob X R t e) 0

/-- Expert `e`'s term of the sum over all experts. -/
def slot (t : Fin 2048) (j : Fin 1024) (e : Fin 32) : EReal :=
  ∑ k : Fin 512, Scalar.select (IntOp.cmpi .eq (I (ix2 t 0)) (BitVec.ofNat 32 e.val)) (X (ix2 t k) * pick X R I t * W (ix3 e k j)) 0

/-- Device `d`'s share of that sum: its own eight experts'. -/
def share (d : Fin 4) (t : Fin 2048) (j : Fin 1024) : EReal :=
  ∑ le : Fin 8, slot X R I W t j (finProdFinEquiv (d, le))

theorem sum_share (t : Fin 2048) (j : Fin 1024) : ∑ d : Fin 4, share X R I W d t j = ∑ e : Fin 32, slot X R I W t j e := by
  unfold share
  rw [← Fintype.sum_prod_type' fun (d : Fin 4) (le : Fin 8) => slot X R I W t j (finProdFinEquiv (d, le))]
  exact Equiv.sum_comp (finProdFinEquiv (m := 4) (n := 8)) (slot X R I W t j)

/-- An index word that names expert `e` is that expert's number. -/
theorem word_iff (i : BitVec 32) (e : Fin 32) : i = BitVec.ofNat 32 e.val ↔ i.toNat = e.val := by
  have he := e.isLt
  constructor
  · rintro rfl
    rw [BitVec.toNat_ofNat]
    omega
  · intro h
    rw [← h, BitVec.ofNat_toNat, BitVec.setWidth_eq]

theorem pick_in (t : Fin 2048) (h : (I (ix2 t 0)).toNat < 32) : pick X R I t = prob X R t ⟨_, h⟩ := by
  unfold pick
  rw [Finset.sum_eq_single ⟨_, h⟩]
  · rw [select_eq, if_pos ((word_iff _ _).mpr rfl).symm]
  · intro e _ he
    rw [select_eq, if_neg fun e' => he (Fin.ext ((word_iff _ _).mp e'.symm).symm)]
  · exact fun h => absurd (Finset.mem_univ _) h

variable {X R}

/-- The shared product and the four shares make the layer, when tokens and router are finite. -/
theorem shares_layer (hX : ∀ i, X i ≠ ⊤ ∧ X i ≠ ⊥) (hR : ∀ i, R i ≠ ⊤ ∧ R i ≠ ⊥) (t : Fin 2048) (j : Fin 1024) :
    (∑ d : Fin 4, share X R I W d t j) + ∑ k : Fin 512, X (ix2 t k) * S (ix2 k j) = layer X R I W S t j := by
  rw [sum_share, add_comm]
  unfold layer
  congr 1
  split
  · next h =>
    rw [Finset.sum_eq_single ⟨_, h⟩]
    · unfold slot
      rw [pick_in X R I t h, ← weigh W _ (prob_real hX hR t _).1 (prob_real hX hR t _).2]
      refine Finset.sum_congr rfl fun k _ => ?_
      rw [select_eq, if_pos ((word_iff _ _).mpr rfl)]
    · intro e _ he
      refine Finset.sum_eq_zero fun k _ => ?_
      rw [select_eq, if_neg fun e' => he (Fin.ext ((word_iff _ _).mp e').symm)]
    · exact fun h => absurd (Finset.mem_univ _) h
  · next h =>
    refine Finset.sum_eq_zero fun e _ => Finset.sum_eq_zero fun k _ => ?_
    rw [select_eq, if_neg fun e' => h ((word_iff _ _).mp e' ▸ e.isLt)]

end Cert.Moe
end
-- ==== Proof.Entries.lean ====
/-
# The kernel's result, read at an index

Each device's partial product is its share of the layer; the block a device finishes adds the four shares and the shared
product, whichever way round the ring they came.
-/
module

public import proofs.«01_k».proof.Proof.Memory
public import proofs.«01_k».proof.Proof.Algebra

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open Cert.Moe

/-- The row of the result that row `r` of row block `sub` of chunk `q` is. -/
def row (q : Dev nD) (sub : Fin 2) (r : Fin 256) : Fin 2048 := ⟨512 * q.val + 256 * sub.val + r.val, by
  have := q.isLt; change q.val < 4 at this; omega⟩
/-- The column of the result that column `j` of half `h` is. -/
def col (h : Fin 2) (j : Fin 512) : Fin 1024 := ⟨512 * h.val + j.val, by omega⟩

/-! ## The operands' rows and columns -/

/-- A row of a row block of the tokens. -/
theorem rowsX_at (f : Vec Ideal S2048x512 .bf16) (q : Dev nD) (sub : Fin 2) (r : Fin 256) (k : Fin 512) :
    rowsX f q sub (ix2 r k) = f (ix2 (row q sub r) k) := by
  unfold rowsX
  rw [View.readAt_rect, View.read_apply]
  refine congrArg f (funext fun a => Fin.ext ?_)
  match a with
  | 0 => show 512 * q.val + 256 * sub.val + 1 * r.val = 512 * q.val + 256 * sub.val + r.val; rw [Nat.one_mul]
  | 1 => show 0 + 1 * k.val = k.val; omega

/-- The expert's number of such a row. -/
theorem rowsI_at (f : Vec Ideal S2048x1 .i32) (q : Dev nD) (sub : Fin 2) (r : Fin 256) :
    rowsI f q sub (ix2 r 0) = f (ix2 (row q sub r) 0) := by
  unfold rowsI
  rw [View.readAt_rect, View.read_apply]
  refine congrArg f (funext fun a => Fin.ext ?_)
  match a with
  | 0 => show 512 * q.val + 256 * sub.val + 1 * r.val = 512 * q.val + 256 * sub.val + r.val; rw [Nat.one_mul]
  | 1 => rfl

/-- The router's weight of such a row. -/
theorem rowsP_at (f : Vec Ideal S2048x1 .f32) (q : Dev nD) (sub : Fin 2) (r : Fin 256) :
    rowsP f q sub (ix2 r 0) = f (ix2 (row q sub r) 0) := by
  unfold rowsP
  rw [View.readAt_rect, View.read_apply]
  refine congrArg f (funext fun a => Fin.ext ?_)
  match a with
  | 0 => show 512 * q.val + 256 * sub.val + 1 * r.val = 512 * q.val + 256 * sub.val + r.val; rw [Nat.one_mul]
  | 1 => rfl

/-- A half of one expert's columns. -/
theorem colsW_at (f : Vec Ideal S8x512x1024 .bf16) (h : Fin 2) (le : Fin 8) (k j : Fin 512) :
    colsW f h le (ix3 0 k j) = f (ix3 le k (col h j)) := by
  unfold colsW
  rw [View.readAt_rect, View.read_apply]
  refine congrArg f (funext fun a => Fin.ext ?_)
  match a with
  | 0 => show le.val + 1 * 0 = le.val; omega
  | 1 => show 0 + 1 * k.val = k.val; omega
  | 2 => show 512 * h.val + 1 * j.val = 512 * h.val + j.val; omega

/-- A half of the shared matrix's columns. -/
theorem colsS_at (f : Vec Ideal S512x1024 .bf16) (h : Fin 2) (k j : Fin 512) :
    colsS f h (ix2 k j) = f (ix2 k (col h j)) := by
  unfold colsS
  rw [View.readAt_rect, View.read_apply]
  refine congrArg f (funext fun a => Fin.ext ?_)
  match a with
  | 0 => show 0 + 1 * k.val = k.val; omega
  | 1 => show 512 * h.val + 1 * j.val = 512 * h.val + j.val; omega

/-! ## The body's values -/

/-- The number of a device's expert, as the word the kernel compares with. -/
theorem expert_word (c : Dev nD) (le : Fin 8) :
    Scalar.addi (baseWord c) (BitVec.ofNat 32 le.val) = BitVec.ofNat 32 (finProdFinEquiv (m := 4) (n := 8) (c, le)).val := by
  revert c le; decide +kernel

/-- One expert's term: the rows sent to that expert, weighted, times its matrix; zero elsewhere. -/
theorem term_at (e : BitVec 32) (xv : Vec Ideal S256x512 .bf16) (rv : Vec Ideal S256x1 .i32) (pv : Vec Ideal S256x1 .f32)
    (w : Vec Ideal S1x512x512 .bf16) (r : Fin 256) (j : Fin 512) :
    (term e xv rv pv w (ix2 r j) : EReal)
      = ∑ k, Scalar.select (IntOp.cmpi .eq (rv (ix2 r 0)) e) ((xv (ix2 r k) : EReal) * pv (ix2 r 0) * w (ix3 0 k j)) (0 : EReal) := by
  pointwise [term]

/-- The shared product. -/
theorem sharedVal_at (xv : Vec Ideal S256x512 .bf16) (w : Vec Ideal S512x512 .bf16) (r : Fin 256) (j : Fin 512) :
    (sharedVal xv w (ix2 r j) : EReal) = ∑ k, (xv (ix2 r k) : EReal) * w (ix2 k j) := by
  pointwise [sharedVal]

/-- The partial product is the sum of the eight terms. -/
theorem halfVal_at (b : BitVec 32) (xv : Vec Ideal S256x512 .bf16) (rv : Vec Ideal S256x1 .i32) (pv : Vec Ideal S256x1 .f32)
    (w : Fin 8 → Vec Ideal S1x512x512 .bf16) (r : Fin 256) (j : Fin 512) :
    (halfVal b xv rv pv w (ix2 r j) : EReal)
      = ∑ le : Fin 8, (term (Scalar.addi b (BitVec.ofNat 32 le.val)) xv rv pv (w le) (ix2 r j) : EReal) := by
  rw [Fin.sum_univ_eight]
  pointwise [halfVal]

/-- The kept weight is the softmax at the token's expert, picked by a sum over the experts. -/
theorem pay4_at (x : Vec Ideal S2048x512 .bf16) (rw : Vec Ideal S512x32 .bf16) (ri : Vec Ideal S2048x1 .i32) (t : Fin 2048) :
    (k0_pay4 (k0_pay2 (k0_pay1 x) rw) (k0_pay3 (k0_pay1 x) rw) ri (ix2 t 0) : EReal) = pick x rw ri t := by
  unfold pick prob expo score
  pointwise [k0_pay4, k0_pay3, k0_pay2, k0_pay1]

/-! ## The shares -/

variable (m : (ℓ : Loc nD τ sig) → Buf (Elt Ideal) ℓ)
  {x : Vec Ideal S2048x512 .bf16} {rw : Vec Ideal S512x32 .bf16} {ri : Vec Ideal S2048x1 .i32}
  {ew : Vec Ideal ⟨3, ![32, 512, 1024]⟩ .bf16} {sw : Vec Ideal S512x1024 .bf16}

/-- The devices are given the same tokens, router, numbers and shared matrix, and each its own eight experts. -/
structure Given (m : (ℓ : Loc nD τ sig) → Buf (Elt Ideal) ℓ) (x : Vec Ideal S2048x512 .bf16) (rw : Vec Ideal S512x32 .bf16)
    (ri : Vec Ideal S2048x1 .i32) (ew : Vec Ideal ⟨3, ![32, 512, 1024]⟩ .bf16) (sw : Vec Ideal S512x1024 .bf16) : Prop where
  hx : ∀ c, vx m c = x
  hrw : ∀ c, vrw m c = rw
  hri : ∀ c, vri m c = ri
  hew : ∀ (c : Dev nD) le k j, vew m c (ix3 le k j) = ew (ix3 (finProdFinEquiv (m := 4) (n := 8) (c, le)) k j)
  hsw : ∀ c, vsw m c = sw

variable {m}

/-- A device's partial product is its share. -/
theorem part_at (g : Given m x rw ri ew sw) (c : Dev nD) (h : Fin 2) (q : Dev nD) (sub : Fin 2) (r : Fin 256) (j : Fin 512) :
    (part m c h q sub (ix2 r j) : EReal) = share x rw ri ew c (row q sub r) (col h j) := by
  unfold part share
  rw [halfVal_at]
  refine Finset.sum_congr rfl fun le _ => ?_
  rw [term_at]
  unfold slot
  refine Finset.sum_congr rfl fun k _ => ?_
  have hp : (vpt m c (ix2 (row q sub r) 0) : EReal) = pick x rw ri (row q sub r) := by
    unfold vpt vxb
    rw [g.hx, g.hrw, g.hri, pay4_at]
  have hxb : (vxb m c (ix2 (row q sub r) k) : EReal) = x (ix2 (row q sub r) k) := by
    unfold vxb
    rw [g.hx]
    pointwise [k0_pay1]
  rw [rowsX_at, rowsI_at, rowsP_at, colsW_at, g.hew, g.hri, expert_word, hp, hxb]

/-- The four shares, added in the order the ring `h` brings them to chunk `q`. -/
theorem ring_sum (f : Dev nD → EReal) (h : Fin 2) (q : Dev nD) :
    f (src h (src h (src h (src h q)))) + f (src h (src h (src h q))) + f (src h (src h q)) + f (src h q) = ∑ d : Fin 4, f d := by
  rw [Fin.sum_univ_four]
  match h, q with
  | 0, 0 => show f 0 + f 1 + f 2 + f 3 = _; rfl
  | 0, 1 => show f 1 + f 2 + f 3 + f 0 = _; ac_rfl
  | 0, 2 => show f 2 + f 3 + f 0 + f 1 = _; ac_rfl
  | 0, 3 => show f 3 + f 0 + f 1 + f 2 = _; ac_rfl
  | 1, 0 => show f 0 + f 3 + f 2 + f 1 = _; ac_rfl
  | 1, 1 => show f 1 + f 0 + f 3 + f 2 = _; ac_rfl
  | 1, 2 => show f 2 + f 1 + f 0 + f 3 = _; ac_rfl
  | 1, 3 => show f 3 + f 2 + f 1 + f 0 = _; ac_rfl

/-- The chunks the partial products on the way to chunk `q` are of. -/
theorem chunks (h : Fin 2) (q : Dev nD) : chunk h (src h (src h (src h (src h q)))) 0 = q ∧ chunk h (src h (src h (src h q))) 1 = q
    ∧ chunk h (src h (src h q)) 2 = q ∧ dst h (src h q) = q := by
  revert h q; decide

/-- A half-block of the result: the shares of every device, and the shared product. -/
theorem oblk_at (g : Given m x rw ri ew sw) (q : Dev nD) (sub h : Fin 2) (r : Fin 256) (j : Fin 512) :
    (oblk m q sub h (ix2 r j) : EReal)
      = (∑ d : Fin 4, share x rw ri ew d (row q sub r) (col h j))
        + ∑ k, (x (ix2 (row q sub r) k) : EReal) * sw (ix2 k (col h j)) := by
  obtain ⟨h0, h1, h2, h3⟩ := chunks h q
  rw [← ring_sum _ h q]
  show ((part m _ h (chunk h _ 0) sub (ix2 r j) + part m _ h (chunk h _ 1) sub (ix2 r j) + part m _ h (chunk h _ 2) sub (ix2 r j)
    + part m (src h q) h (dst h (src h q)) sub (ix2 r j)) + sharedVal (rowsX (vxb m (src h q)) (dst h (src h q)) sub) (colsS (vsw m (src h q)) h) (ix2 r j) : EReal) = _
  rw [h0, h1, h2, h3, part_at g, part_at g, part_at g, part_at g, sharedVal_at]
  congr 1
  refine Finset.sum_congr rfl fun k _ => ?_
  have hxb : (vxb m (src h q) (ix2 (row q sub r) k) : EReal) = x (ix2 (row q sub r) k) := by
    unfold vxb
    rw [g.hx]
    pointwise [k0_pay1]
  rw [rowsX_at, colsS_at, g.hsw, hxb]

/-- The kernel's result is the layer, when the tokens and the router are finite. -/
theorem OUT_at (g : Given m x rw ri ew sw) (hX : ∀ i, (x i : EReal) ≠ ⊤ ∧ (x i : EReal) ≠ ⊥) (hR : ∀ i, (rw i : EReal) ≠ ⊤ ∧ (rw i : EReal) ≠ ⊥)
    (t : Fin 2048) (j : Fin 1024) : (OUT m (ix2 t j) : EReal) = layer x rw ri ew sw t j := by
  rw [← shares_layer (hX := hX) (hR := hR)]
  have hp : placeOf (ix2 t j) = ix2 ⟨t.val % 256, Nat.mod_lt _ (by decide)⟩ ⟨j.val % 512, Nat.mod_lt _ (by decide)⟩ :=
    funext fun a => match a with | 0 => rfl | 1 => rfl
  have ht : row (blockOf (ix2 t j)).1 (blockOf (ix2 t j)).2.1 ⟨t.val % 256, Nat.mod_lt _ (by decide)⟩ = t := by
    refine Fin.ext ?_
    show 512 * (t.val / 512) + 256 * (t.val % 512 / 256) + t.val % 256 = t.val
    omega
  have hj : col (blockOf (ix2 t j)).2.2 ⟨j.val % 512, Nat.mod_lt _ (by decide)⟩ = j := by
    refine Fin.ext ?_
    show 512 * (j.val / 512) + j.val % 512 = j.val
    omega
  unfold OUT
  rw [hp, oblk_at g, ht, hj]

end Cert.KernelIdeal.Run

end
-- ==== Proof.Reference.lean ====
module
public import proofs.«01_k».proof.Proof.Algebra
public import proofs.«01_k».proof.Proof.Gen.ReferenceIdeal.Run
@[expose] public section
set_option maxRecDepth 16384
noncomputable section
namespace Cert.ReferenceIdeal.Value
open Cert.ReferenceIdeal Cert.ReferenceIdeal.Gen Cert.Moe
open Idealize.ShloMosaic Idealize.SL.Sem

/-! The reference's result, read at an index. -/

/-! ## The two gathers -/

/-- The gather of one weight a token: the table at the pair of index words, each clamped. -/
theorem gather_weight (x : FVec Ideal S2048x32 .f32) (idx : IVec S2048x2 32) (r : Fin 2048) :
    Host.gather gather_S2048x32_S2048x2_S2048_n_01_n_n_01_1_11 x idx (ix1 r)
      = x (ix2 ⟨min (idx (ix2 r 0)).toInt.toNat 2047, by omega⟩ ⟨min (idx (ix2 r 1)).toInt.toNat 31, by omega⟩) := by
  unfold Host.gather
  congr 1
  funext a
  refine Fin.ext ?_
  have hsi : ∀ k, gather_S2048x32_S2048x2_S2048_n_01_n_n_01_1_11.siIdx (ix1 r) k = ix2 r (k.cast rfl) := by
    intro k; funext b; refine Fin.ext ?_
    match b with
    | ⟨0, _⟩ => rfl
    | ⟨1, _⟩ => rfl
  show GatherDims.start _ _ idx a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (by revert a; decide))]
  unfold GatherDims.start
  rw [dif_pos (by revert a; decide), hsi]
  match a with
  | ⟨0, _⟩ => rfl
  | ⟨1, _⟩ => rfl

/-- The gather of one matrix a token: the stack at the index word, clamped. -/
theorem gather_matrix (x : FVec Ideal S32x512x1024 .f32) (idx : IVec S2048x1 32) (r : Fin 2048) (k : Fin 512) (c : Fin 1024) :
    Host.gather gather_S32x512x1024_S2048x1_S2048x512x1024_12_0_n_n_0_1_15121024 x idx (ix3 r k c)
      = x (ix3 ⟨min (idx (ix2 r 0)).toInt.toNat 31, by omega⟩ k c) := by
  unfold Host.gather
  congr 1
  funext a
  refine Fin.ext ?_
  have hsi : ∀ q, gather_S32x512x1024_S2048x1_S2048x512x1024_12_0_n_n_0_1_15121024.siIdx (ix3 r k c) q = ix2 r 0 := by
    intro q; funext b; refine Fin.ext ?_
    match b with
    | ⟨0, _⟩ => rfl
    | ⟨1, _⟩ => exact congrArg Fin.val (Subsingleton.elim (α := Fin 1) (q.cast rfl) 0)
  show GatherDims.start _ _ idx a + GatherDims.batchCoord _ _ a + GatherDims.offCoord _ _ a = _
  rw [GatherDims.batchCoord_eq_zero _ _ _ List.not_mem_nil]
  match a with
  | 0 =>
    rw [GatherDims.offCoord_eq_zero _ _ _ (by decide)]
    unfold GatherDims.start
    rw [dif_pos (by decide), hsi]
    rfl
  | 1 =>
    unfold GatherDims.start
    rw [dif_neg (by decide), Nat.add_zero, Nat.zero_add]
    unfold GatherDims.offCoord
    rw [dif_pos (by decide)]
    rfl
  | 2 =>
    unfold GatherDims.start
    rw [dif_neg (by decide), Nat.add_zero, Nat.zero_add]
    unfold GatherDims.offCoord
    rw [dif_pos (by decide)]
    rfl

/-! ## The stages -/

variable (x : FVec Ideal S2048x512 .bf16) (rw : FVec Ideal S512x32 .bf16) (ri : IVec S2048x1 32)
  (ew : FVec Ideal S32x512x1024 .bf16) (sw : FVec Ideal S512x1024 .bf16)

/-- The tokens' scores. -/
def scores : FVec Ideal S2048x32 .f32 :=
  Host.dotGeneral dot_S2048x512_S512x32_S2048x32_1_0_0_1_n_n none (extf .f32 x bitsLt_bf16_f32) (extf .f32 rw bitsLt_bf16_f32)

/-- Their exponentials, the greatest taken off. -/
def expos : FVec Ideal S2048x32 .f32 :=
  Host.exp (subf (scores x rw) (broadcastInDim S2048x32 ![0, 1] bcast_S2048x1_S2048x32_0_1 (broadcastInDim S2048x1 ![0] bcast_S2048_S2048x1_0
    (Host.reduce FloatOps.maximumf (scores x rw) (constant S_ .f32 0xFF800000#32) reducesTo_S2048x32_S2048_d1 h_S_))))

/-- The softmax. -/
def probs : FVec Ideal S2048x32 .f32 :=
  Host.divf (expos x rw) (broadcastInDim S2048x32 ![0, 1] bcast_S2048x1_S2048x32_0_1 (broadcastInDim S2048x1 ![0] bcast_S2048_S2048x1_0
    (Host.reduceAdd (expos x rw) (constant S_ .f32 0x00000000#32) reducesTo_S2048x32_S2048_d1 h_S_)))

/-- The experts' numbers, a column. -/
def column : IVec S2048x1 32 := broadcastInDim S2048x1 ![0] bcast_S2048_S2048x1_0 (shapeCast S2048 ri shapeCasts_S2048x1_S2048)

/-- The tokens' numbers beside them. -/
def pairs : IVec S2048x2 32 :=
  concatenate S2048x2 1 [⟨S2048x1, broadcastInDim S2048x1 ![0] bcast_S2048_S2048x1_0 (iotaInDim S2048 32 0)⟩, ⟨S2048x1, column ri⟩] concatenates_S2048x1_S2048x1_S2048x2_d1

/-- Whether a pair lies in the table of weights. -/
def pairOk : IVec S2048 1 :=
  Host.reduce IntOp.andi (andi (cmpi .sge (pairs ri) (broadcastInDim S2048x2 ![] bcast_S_S2048x2 (constantI S_ 32 0#32)))
    (cmpi .sle (pairs ri) (broadcastInDim S2048x2 ![0, 1] bcast_S1x2_S2048x2_0_1 (broadcastInDim S1x2 ![1] bcast_S2_S1x2_1 (fun i => lit0 (S2.rowMajor i))))))
    (constantI S_ 1 1#1) reducesTo_S2048x2_S2048_d1 h_S_

/-- Whether a number lies in the stack of matrices. -/
def numberOk : IVec S2048 1 :=
  Host.reduce IntOp.andi (andi (cmpi .sge (column ri) (broadcastInDim S2048x1 ![] bcast_S_S2048x1 (constantI S_ 32 0#32)))
    (cmpi .sle (column ri) (broadcastInDim S2048x1 ![0, 1] bcast_S1x1_S2048x1_0_1 (broadcastInDim S1x1 ![1] bcast_S1_S1x1_1 (constantI S1 32 31#32)))))
    (constantI S_ 1 1#1) reducesTo_S2048x1_S2048_d1 h_S_

/-- The router's weight of each token's expert, zero where the number names none. -/
def weights : FVec Ideal S2048 .f32 :=
  select (pairOk ri) (Host.gather gather_S2048x32_S2048x2_S2048_n_01_n_n_01_1_11 (probs x rw) (pairs ri))
    (broadcastInDim S2048 ![] bcast_S_S2048 (constant S_ .f32 0x00000000#32))

/-- Each token's expert's matrix, zero where the number names none. -/
def matrices : FVec Ideal S2048x512x1024 .f32 :=
  select (broadcastInDim S2048x512x1024 ![0] bcast_S2048_S2048x512x1024_0 (numberOk ri))
    (Host.gather gather_S32x512x1024_S2048x1_S2048x512x1024_12_0_n_n_0_1_15121024 (extf .f32 ew bitsLt_bf16_f32) (column ri))
    (broadcastInDim S2048x512x1024 ![] bcast_S_S2048x512x1024 (constant S_ .f32 0x00000000#32))

/-- The shared product plus the weighted expert's product. -/
def result : FVec Ideal S2048x1024 .bf16 :=
  truncf .bf16 (addf (Host.dotGeneral dot_S2048x512_S512x1024_S2048x1024_1_0_0_1_n_n none (extf .f32 x bitsLt_bf16_f32) (extf .f32 sw bitsLt_bf16_f32))
    (mulf (broadcastInDim S2048x1024 ![0, 1] bcast_S2048x1_S2048x1024_0_1 (broadcastInDim S2048x1 ![0] bcast_S2048_S2048x1_0 (weights x rw ri)))
      (Host.dotGeneral dot_S2048x512_S2048x512x1024_S2048x1024_1_1_n_2_0_0 none (extf .f32 x bitsLt_bf16_f32) (matrices ri ew)))) bitsLt_bf16_f32

/-- The generated run's term is the last stage. -/
theorem res_eq (m : (ℓ : Loc nD τ sig) → Buf (Elt Ideal) ℓ) (c : Dev nD) :
    res_main_v47 m c = result (m (c.tc.loc main_arg0)) (m (c.tc.loc main_arg1)) (m (c.tc.loc main_arg2)) (m (c.tc.loc main_arg3)) (m (c.tc.loc main_arg4)) := rfl

/-! ## Their entries -/

/-- The scores, entry by entry. -/
theorem scores_at (t : Fin 2048) (e : Fin 32) : (scores x rw (ix2 t e) : EReal) = score x rw t e := by
  unfold score
  pointwise [scores]

/-- Their exponentials, entry by entry. -/
theorem expos_at (t : Fin 2048) (e : Fin 32) : (expos x rw (ix2 t e) : EReal) = expo x rw t e := by
  unfold expo
  pointwise [expos, scores_at]

/-- The softmax, entry by entry. -/
theorem probs_at (t : Fin 2048) (e : Fin 32) : (probs x rw (ix2 t e) : EReal) = prob x rw t e := by
  unfold prob
  pointwise [probs, expos_at]

/-- A token's entry of the column is its expert's number. -/
theorem column_at (t : Fin 2048) : column ri (ix2 t 0) = ri (ix2 t 0) := by
  pointwise [column]

/-- A token's pair is its own number and its expert's. -/
theorem pairs_at (t : Fin 2048) : pairs ri (ix2 t 0) = BitVec.ofNat 32 t.val ∧ pairs ri (ix2 t 1) = ri (ix2 t 0) := by
  constructor
  · pointwise [pairs, column_at]
  · pointwise [pairs, column_at]

/-- The two signed comparisons together: the word's number is below the bound. -/
theorem within (w : BitVec 32) (n : Nat) (hn : n < 2 ^ 31) :
    IntOp.andi (IntOp.cmpi .sge w 0#32) (IntOp.cmpi .sle w (BitVec.ofNat 32 n)) = BitVec.ofBool (decide (w.toNat < n + 1)) := by
  have h0 : ((0#32).sle w && w.sle (BitVec.ofNat 32 n)) = decide (w.toNat < n + 1) := by
    rw [Bool.eq_iff_iff]
    simp only [BitVec.sle, Bool.and_eq_true, decide_eq_true_eq, BitVec.toInt_eq_toNat_cond, BitVec.toNat_ofNat]
    have := w.isLt
    constructor
    · intro ⟨h, h'⟩; split_ifs at * <;> omega
    · intro h; constructor <;> split_ifs <;> omega
  rw [← h0]
  show IntOp.andi (BitVec.ofBool ((0#32).sle w)) (BitVec.ofBool (w.sle (BitVec.ofNat 32 n))) = _
  cases (0#32).sle w <;> cases w.sle (BitVec.ofNat 32 n) <;> rfl

/-- A word whose number is small reads as that number when signed and clamped. -/
theorem clamp {w : BitVec 32} {n : Nat} (h : w.toNat < n + 1) (hn : n < 2 ^ 31) : min w.toInt.toNat n = w.toNat := by
  rw [BitVec.toInt_eq_toNat_cond]
  split_ifs <;> omega

/-- A pair lies in the table exactly when the expert's number is below 32. -/
theorem pairOk_at (t : Fin 2048) : pairOk ri (ix1 t) = BitVec.ofBool (decide ((ri (ix2 t 0)).toNat < 32)) := by
  pointwise [pairOk]
  show IntOp.andi (IntOp.andi (IntOp.cmpi .sge (pairs ri (ix2 t 0)) 0#32) (IntOp.cmpi .sle (pairs ri (ix2 t 0)) (BitVec.ofNat 32 2047)))
    (IntOp.andi (IntOp.andi (IntOp.cmpi .sge (pairs ri (ix2 t 1)) 0#32) (IntOp.cmpi .sle (pairs ri (ix2 t 1)) (BitVec.ofNat 32 31))) 1#1) = _
  rw [(pairs_at ri t).1, (pairs_at ri t).2, within _ 2047 (by decide), within _ 31 (by decide)]
  have ht : (BitVec.ofNat 32 t.val).toNat < 2047 + 1 := by
    have := t.isLt
    rw [BitVec.toNat_ofNat]; omega
  rw [decide_eq_true ht]
  cases decide ((ri (ix2 t 0)).toNat < 31 + 1) <;> rfl

/-- So does a number in the stack. -/
theorem numberOk_at (t : Fin 2048) : numberOk ri (ix1 t) = BitVec.ofBool (decide ((ri (ix2 t 0)).toNat < 32)) := by
  pointwise [numberOk]
  show IntOp.andi (IntOp.andi (IntOp.cmpi .sge (column ri (ix2 t 0)) 0#32) (IntOp.cmpi .sle (column ri (ix2 t 0)) (BitVec.ofNat 32 31))) 1#1 = _
  rw [column_at, within _ 31 (by decide)]
  cases decide ((ri (ix2 t 0)).toNat < 31 + 1) <;> rfl

/-- A token's weight. -/
theorem weights_at (t : Fin 2048) : weights x rw ri (ix1 t) = if h : (ri (ix2 t 0)).toNat < 32 then prob x rw t ⟨_, h⟩ else (0 : EReal) := by
  have ht : (BitVec.ofNat 32 t.val).toNat = t.val := by
    have := t.isLt
    rw [BitVec.toNat_ofNat]; omega
  pointwise [weights, pairOk_at, gather_weight, pairs_at, probs_at]
  by_cases h : (ri (ix2 t 0)).toNat < 32
  · rw [if_pos h, dif_pos h]
    congr 1 <;> refine Fin.ext ?_
    · exact (clamp (by rw [ht]; exact t.isLt) (by decide)).trans ht
    · exact clamp h (by decide)
  · rw [if_neg h, dif_neg h]

/-- A token's matrix. -/
theorem matrices_at (t : Fin 2048) (k : Fin 512) (j : Fin 1024) :
    matrices ri ew (ix3 t k j) = if h : (ri (ix2 t 0)).toNat < 32 then ew (ix3 ⟨_, h⟩ k j) else (0 : EReal) := by
  pointwise [matrices, numberOk_at, gather_matrix, column_at]
  by_cases h : (ri (ix2 t 0)).toNat < 32
  · rw [if_pos h, dif_pos h]
    congr 2
    exact Fin.ext (clamp h (by decide))
  · rw [if_neg h, dif_neg h]

/-- The reference's result is the layer. -/
theorem result_at (t : Fin 2048) (j : Fin 1024) : (result x rw ri ew sw (ix2 t j) : EReal) = layer x rw ri ew sw t j := by
  unfold layer
  pointwise [result, weights_at, matrices_at]
  congr 1
  by_cases h : (ri (ix2 t 0)).toNat < 32
  · simp only [dif_pos h]
    rfl
  · simp only [dif_neg h]
    exact zero_mul _

end Cert.ReferenceIdeal.Value
end
-- ==== Proof.Value.lean ====
/-
# The two programs agree

From memories that agree, with finite tokens and a finite router, every device of the kernel's run ends with the layer in
its result, and the reference's run ends with it too.
-/
module

public import proofs.«01_k».proof.Proof.Frames
public import proofs.«01_k».proof.Proof.Entries
public import proofs.«01_k».proof.Proof.Reference
public import Idealize.ShloMosaic.Lib.Pipeline.ValueKit

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open Cert.Moe

/-! ## The kernel's arrays -/

variable (m : (ℓ : Loc nD τ sig) → Buf (Elt Ideal) ℓ) (ρ : Dev nD → PrngReg)

/-- The launch's one point reads each operand from its start. -/
theorem windows_at_zero (t : Fin 1) : win0_0.index t = ![0, 0] ∧ win0_1.index t = ![0, 0] ∧ win0_2.index t = ![0, 0]
    ∧ win0_3.index t = ![0, 0, 0] ∧ win0_4.index t = ![0, 0] := by
  have h : ∀ t : Fin grid0.N, win0_0.index t = ![0, 0] ∧ win0_1.index t = ![0, 0] ∧ win0_2.index t = ![0, 0]
    ∧ win0_3.index t = ![0, 0, 0] ∧ win0_4.index t = ![0, 0] := by decide +kernel
  exact h t

/-- Its one point writes the result whole. -/
theorem whole_at (t : Fin grid0.N) : win0_5.WholeAt t := by revert t; decide +kernel

/-! Each operand, as the kernel is given it, is its whole array. -/

theorem vx_eq (c : Dev nD) : vx m c = m ((c : Thread nD τ).loc main_arg0) := by
  funext i; unfold vx; blk_ext [windows_at_zero]
theorem vrw_eq (c : Dev nD) : vrw m c = m ((c : Thread nD τ).loc main_arg1) := by
  funext i; unfold vrw; blk_ext [windows_at_zero]
theorem vri_eq (c : Dev nD) : vri m c = m ((c : Thread nD τ).loc main_arg2) := by
  funext i; unfold vri; blk_ext [windows_at_zero]
theorem vew_eq (c : Dev nD) : vew m c = m ((c : Thread nD τ).loc main_arg3) := by
  funext i; unfold vew; blk_ext [windows_at_zero]
theorem vsw_eq (c : Dev nD) : vsw m c = m ((c : Thread nD τ).loc main_arg4) := by
  funext i; unfold vsw; blk_ext [windows_at_zero]

/-- The result's array ends holding what the launch's one point leaves. -/
theorem result_array (c : Dev nD) : finalA m ρ c (5 : Fin 6) = OUT m := by
  refine (dats (F := Ideal) m ρ 0 c).arrAt_eq_of_after_last 5 (⟨0, by decide⟩ : Fin 1) (whole_at _) _ fun j => ?_
  rfl

/-! ## The precondition -/

/-- The precondition's shape facts, for the kernel's arrays and for the reference's. -/
theorem finite_facts_kernel : Cert.Pre_finite_scores_KernelIdeal.Facts := ⟨by decide, by decide⟩
theorem finite_facts_reference : Cert.Pre_finite_scores_ReferenceIdeal.Facts := ⟨by decide, by decide⟩

/-- Neither infinity. -/
abbrev IsFinite (x : EReal) : Prop := x ≠ ⊤ ∧ x ≠ ⊥

/-- A magnitude below the infinity of the format is a finite number's. -/
theorem finite_of_below {x : EReal}
    (h : FloatOps.cmpf (F := Ideal) (φ := .bf16) .olt (FloatOps.absf (F := Ideal) (φ := .bf16) x) (Ideal.ofBits .bf16 0x7F80#16) = 1#1) :
    IsFinite x := by
  have hi : Ideal.ofBits .bf16 0x7F80#16 = (⊤ : EReal) := by simp [Ideal.ofBits, Ideal.ieee]
  rw [hi] at h
  have h' : max x (-x) < (⊤ : EReal) := by
    by_contra hn
    exact absurd h (by
      show BitVec.ofBool (decide (max x (-x) < (⊤ : EReal))) ≠ 1#1
      rw [decide_eq_false hn]; decide)
  constructor
  · rintro rfl
    simp at h'
  · rintro rfl
    simp at h'

/-- The precondition, read: the tokens and the router's matrix are finite on every device. -/
theorem finite_inputs (h : Cert.Pre_KernelIdeal_finite_scores_KernelIdeal (hPre_finite_scores_KernelIdeal := finite_facts_kernel) m) (c : Dev nD) :
    (∀ i, IsFinite (m ((c : Thread nD τ).loc main_arg0) i))
      ∧ ∀ i, IsFinite (m ((c : Thread nD τ).loc main_arg1) i) :=
  ⟨fun i => finite_of_below (congrFun (h c).1 i), fun i => finite_of_below (congrFun (h c).2 i)⟩

/-! ## The claim -/

/-- A device's block of the experts holds its own eight. -/
theorem block_at (v : (⟨3, ![32, 512, 1024]⟩ : Shape).Idx → EReal) (c : Dev nD) (le : Fin 8) (k : Fin 512) (j : Fin 1024) :
    Layout.block ⟨3, ![8, 512, 1024]⟩ ⟨3, ![32, 512, 1024]⟩ 0 4 c v (by decide) (ix3 le k j)
      = v (ix3 (finProdFinEquiv (m := 4) (n := 8) (c, le)) k j) := by
  rw [Layout.block_apply]
  refine congrArg v (funext fun a => Fin.ext ?_)
  rw [Layout.Tiles.idx_val]
  match a with
  | 0 => show c.val * 8 + le.val = le.val + 8 * c.val; omega
  | 1 => rfl
  | 2 => rfl

/-- From memories that agree, with finite tokens and a finite router, the two programs' results agree. -/
theorem agree : Cert.algebraic_KernelIdeal_ReferenceIdeal_pre_finite_scores_KernelIdeal (hPre_finite_scores_KernelIdeal := finite_facts_kernel) := by
  intro m ρ m' ρ' hpre hin
  have hfin := finite_inputs m hpre 0
  have g : Given m _ _ _ _ _ :=
    { hx := fun c => (vx_eq m c).trans (hin c).1
      hrw := fun c => (vrw_eq m c).trans (hin c).2.1
      hri := fun c => (vri_eq m c).trans (hin c).2.2.1
      hew := fun c le k j => (congrFun ((vew_eq m c).trans (hin c).2.2.2.1) (ix3 le k j)).trans (block_at _ c le k j)
      hsw := fun c => (vsw_eq m c).trans (hin c).2.2.2.2 }
  rw [(hin 0).1, (hin 0).2.1] at hfin
  have hv : OUT m = Cert.ReferenceIdeal.Value.res_main_v47 m' 0 := by
    rw [Cert.ReferenceIdeal.Value.res_eq]
    funext i
    obtain ⟨t, j, rfl⟩ : ∃ t j, i = ix2 t j := ⟨i 0, i 1, funext fun a => match a with | 0 => rfl | 1 => rfl⟩
    exact (OUT_at g hfin.1 hfin.2 t j).trans (Cert.ReferenceIdeal.Value.result_at _ _ _ _ _ t j).symm
  refine ⟨OUT m, ?_, ?_⟩
  · exact (θ_run defs _ _).mono (fun r h c =>
      ⟨(h.1 c (5 : Fin 6)).trans (result_array m ρ c),
       (h.1 c (0 : Fin 6)).trans (kept m ρ c (0 : Fin 6) rfl), (h.1 c (1 : Fin 6)).trans (kept m ρ c (1 : Fin 6) rfl),
       (h.1 c (2 : Fin 6)).trans (kept m ρ c (2 : Fin 6) rfl), (h.1 c (3 : Fin 6)).trans (kept m ρ c (3 : Fin 6) rfl),
       (h.1 c (4 : Fin 6)).trans (kept m ρ c (4 : Fin 6) rfl)⟩) (run_main m ρ)
  · rw [hv]
    exact (θ_run Cert.ReferenceIdeal.defs _ _).mono (fun r h => h 0) (Cert.ReferenceIdeal.Value.run m' ρ')

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends with its arguments unchanged (the generated run) and every counter zero: it declares no
    semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  Cert.KernelIdeal.Run.finite_facts_kernel, Cert.KernelIdeal.Run.finite_facts_reference,
  Cert.KernelIdeal.Run.frame_kernel, Cert.KernelIdeal.Run.frame_ideal, fun m ρ _ => Cert.KernelIdeal.Run.frame_ideal m ρ trivial,
  frame_reference, fun m ρ _ => frame_reference m ρ trivial, trivial, Cert.KernelIdeal.Run.agree⟩

end Cert.Proof

end
